-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_group_ranges [hPre_group_ranges : Cert.Pre_group_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_group_ranges.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_group_ranges [hPre_group_ranges : Cert.Pre_group_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_group_ranges.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_group_ranges [hKernelIdeal : Cert.KernelIdeal.Facts] [hPre_group_ranges : Cert.Pre_group_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_group_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_group_ranges [hReferenceIdeal : Cert.ReferenceIdeal.Facts] [hPre_group_ranges : Cert.Pre_group_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_group_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S2x320x2x128 Cert.KernelIdeal.S2x320x1x128
  ∧ IdealRules.bf16_pair.Statement Cert.KernelIdeal.S64x128 Cert.KernelIdeal.S32x128
  ∧ IdealRules.bf16_pair.Statement Cert.KernelIdeal.S1x32x2x128 Cert.KernelIdeal.S1x32x1x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.named_const.Statement Cert.KernelIdeal.κ "shrink_exp" .f32 0x3FA66666#32 ((21810381 / 16777216 : ℝ) : EReal)
  ∧ IdealRules.named_const.Statement Cert.KernelIdeal.κ "step_init" .f32 0x3ACCCCCD#32 ((1 / 640 : ℝ) : EReal)
  ∧ IdealRules.named_const.Statement Cert.KernelIdeal.κ "neg_shrink_exp" .f32 0xBFA66666#32 ((-21810381 / 16777216 : ℝ) : EReal)
  ∧ IdealRules.named_const.Statement Cert.KernelIdeal.κ "inv_growth" .f32 0x3F7D7721#32 ((4194304 / 4236247 : ℝ) : EReal)

def algebraic_KernelIdeal_ReferenceIdeal_pre_group_ranges [hKernelIdeal : Cert.KernelIdeal.Facts] [hReferenceIdeal : Cert.ReferenceIdeal.Facts] [hPre_group_ranges : Cert.Pre_group_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_group_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_group_ranges : Cert.Pre_group_ranges.Facts),
    quiescent_Kernel (hKernel := hKernel)
    ∧ quiescent_KernelIdeal (hKernelIdeal := hKernelIdeal)
    ∧ quiescent_KernelIdeal_pre_group_ranges (hKernelIdeal := hKernelIdeal) (hPre_group_ranges := hPre_group_ranges)
    ∧ quiescent_ReferenceIdeal (hReferenceIdeal := hReferenceIdeal)
    ∧ quiescent_ReferenceIdeal_pre_group_ranges (hReferenceIdeal := hReferenceIdeal) (hPre_group_ranges := hPre_group_ranges)
    ∧ preserves_Kernel_KernelIdeal
    ∧ algebraic_KernelIdeal_ReferenceIdeal_pre_group_ranges (hKernelIdeal := hKernelIdeal) (hReferenceIdeal := hReferenceIdeal) (hPre_group_ranges := hPre_group_ranges)
-- ==== Pre_group_ranges.lean ====
abbrev S3x512x18432 : Shape := ⟨3, ![3, 512, 18432]⟩
abbrev S3x8x64x18432 : Shape := ⟨4, ![3, 8, 64, 18432]⟩
abbrev S_ : Shape := ⟨0, ![]⟩
abbrev S3x8x18432 : Shape := ⟨3, ![3, 8, 18432]⟩

class Facts : Prop where
  bitsLt_bf16_f32 : FTy.bits .bf16 < FTy.bits .f32
  shapeCasts_S3x512x18432_S3x8x64x18432 : S3x512x18432.ShapeCasts S3x8x64x18432
  reducesTo_S3x8x64x18432_S3x8x18432_d2 : S3x8x64x18432.ReducesTo [2] S3x8x18432
  h_S_ : 0 < S_.numel
  bcast_S_S3x8x18432 : S_.BroadcastsInDim S3x8x18432 (![] : Fin 0 → Fin S3x8x18432.rank)

variable [Facts]

def fn {F : FTy → Type} [FloatOps F] (main_arg0 : FVec F S3x512x18432 .bf16) : IVec S3x8x18432 1 :=
  let main_v0 : FVec F S3x512x18432 .f32 := (extf .f32 · bitsLt_bf16_f32) main_arg0
  let main_v1 : FVec F S3x8x64x18432 .f32 := shapeCast S3x8x64x18432 main_v0 shapeCasts_S3x512x18432_S3x8x64x18432
  let main_cst : FVec F S_ .f32 := constant S_ .f32 0xFF800000#32
  let main_v2 : FVec F S3x8x18432 .f32 := (fun x v => Host.reduce FloatOps.maximumf x v reducesTo_S3x8x64x18432_S3x8x18432_d2 h_S_) main_v1 main_cst
  let main_cst_0 : FVec F S_ .f32 := constant S_ .f32 0x7F800000#32
  let main_v3 : FVec F S3x8x18432 .f32 := (fun x v => Host.reduce FloatOps.minimumf x v reducesTo_S3x8x64x18432_S3x8x18432_d2 h_S_) main_v1 main_cst_0
  let main_v4 : FVec F S3x8x18432 .f32 := subf main_v2 main_v3
  let main_cst_1 : FVec F S_ .f32 := constant S_ .f32 0x00000000#32
  let main_v5 : FVec F S3x8x18432 .f32 := broadcastInDim S3x8x18432 ![] bcast_S_S3x8x18432 main_cst_1
  let main_v6 : IVec S3x8x18432 1 := cmpf .oeq main_v4 main_v5
  let main_cst_2 : FVec F S_ .f32 := constant S_ .f32 0x1B000000#32
  let main_v7 : FVec F S3x8x18432 .f32 := broadcastInDim S3x8x18432 ![] bcast_S_S3x8x18432 main_cst_2
  let main_v8 : IVec S3x8x18432 1 := cmpf .oge main_v4 main_v7
  let main_cst_3 : FVec F S_ .f32 := constant S_ .f32 0x67800000#32
  let main_v9 : FVec F S3x8x18432 .f32 := broadcastInDim S3x8x18432 ![] bcast_S_S3x8x18432 main_cst_3
  let main_v10 : IVec S3x8x18432 1 := cmpf .ole main_v4 main_v9
  let main_v11 : IVec S3x8x18432 1 := andi main_v8 main_v10
  let main_v12 : IVec S3x8x18432 1 := ori main_v6 main_v11
  main_v12
-- ==== Kernel.lean ====
abbrev S3x512x18432 : Shape := ⟨3, ![3, 512, 18432]⟩
abbrev S3x256x18432 : Shape := ⟨3, ![3, 256, 18432]⟩
abbrev S3x8x18432 : Shape := ⟨3, ![3, 8, 18432]⟩
abbrev S1x512x1024 : Shape := ⟨3, ![1, 512, 1024]⟩
abbrev S1x256x1024 : Shape := ⟨3, ![1, 256, 1024]⟩
abbrev S1x8x1024 : Shape := ⟨3, ![1, 8, 1024]⟩
abbrev S2x320x128 : Shape := ⟨3, ![2, 320, 128]⟩
abbrev S2x64x8x128 : Shape := ⟨4, ![2, 64, 8, 128]⟩
abbrev S2x64x128 : Shape := ⟨3, ![2, 64, 128]⟩
abbrev S1x64x128 : Shape := ⟨3, ![1, 64, 128]⟩
abbrev S64x128 : Shape := ⟨2, ![64, 128]⟩
abbrev S32x128 : Shape := ⟨2, ![32, 128]⟩
abbrev S1x32x128 : Shape := ⟨3, ![1, 32, 128]⟩
abbrev S1x8x128 : Shape := ⟨3, ![1, 8, 128]⟩
abbrev S8x128 : Shape := ⟨2, ![8, 128]⟩
abbrev S1x1x8x128 : Shape := ⟨4, ![1, 1, 8, 128]⟩
abbrev S256x128 : Shape := ⟨2, ![256, 128]⟩
abbrev S1x256x128 : Shape := ⟨3, ![1, 256, 128]⟩

abbrev nBuf : Space → Nat
  | .hbm => 6
  | .vmem => 15
  | .smem => 0
  | _ => 0

abbrev bufTy : (tb : Table) → Fin (tcTables nBuf tb) → BufTy
  | .hbm, ⟨0, _⟩ => ⟨S3x512x18432, .bf16⟩
  | .hbm, ⟨1, _⟩ => ⟨S3x256x18432, .i8⟩
  | .hbm, ⟨2, _⟩ => ⟨S3x8x18432, .f32⟩
  | .hbm, ⟨3, _⟩ => ⟨S3x8x18432, .f32⟩
  | .hbm, ⟨4, _⟩ => ⟨S3x8x18432, .f32⟩
  | .hbm, ⟨5, _⟩ => ⟨S3x8x18432, .f32⟩
  | .local _ .vmem, ⟨0, _⟩ => ⟨S1x512x1024, .bf16⟩
  | .local _ .vmem, ⟨1, _⟩ => ⟨S1x512x1024, .bf16⟩
  | .local _ .vmem, ⟨2, _⟩ => ⟨S1x256x1024, .i8⟩
  | .local _ .vmem, ⟨3, _⟩ => ⟨S1x256x1024, .i8⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S2x320x128, .i32⟩
  | .local _ .vmem, ⟨13, _⟩ => ⟨S2x64x8x128, .f32⟩
  | .local _ .vmem, ⟨14, _⟩ => ⟨S2x64x128, .i32⟩
  | _, _ => ⟨S3x512x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![3, 18], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let c0_i32_1 : BitVec 32 := 0#32
  let v2 : BitVec 32 := Scalar.addi v1 c0_i32_1
  let c128_i32 : BitVec 32 := 128#32
  let v3 : BitVec 32 := Scalar.muli v2 c128_i32
  v3
def k0_off1 (k0_t1 : Fin k0_t1_loop.trips) (c0_i32_1 : BitVec 32) : Fin 3 → Nat :=
  let c0 : Index := 0#32
  let c0_2 : Index := 0#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v5 : Index := Scalar.indexCast v4
  ![0, 0, v5.toNat]
def k0_off2 (k0_t1 : Fin k0_t1_loop.trips) (c0_i32_1 : BitVec 32) : Fin 3 → Nat :=
  let c0_6 : Index := 0#32
  let c64 : Index := 64#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v12 : Index := Scalar.indexCast v4
  ![0, 64, v12.toNat]
def k0_off3 (k0_t1 : Fin k0_t1_loop.trips) (c0_i32_1 : BitVec 32) : Fin 3 → Nat :=
  let c0_9 : Index := 0#32
  let c128 : Index := 128#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v19 : Index := Scalar.indexCast v4
  ![0, 128, v19.toNat]
def k0_off4 (k0_t1 : Fin k0_t1_loop.trips) (c0_i32_1 : BitVec 32) : Fin 3 → Nat :=
  let c0_12 : Index := 0#32
  let c192 : Index := 192#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v26 : Index := Scalar.indexCast v4
  ![0, 192, v26.toNat]
def k0_off5 (k0_t1 : Fin k0_t1_loop.trips) (c0_i32_1 : BitVec 32) : Fin 3 → Nat :=
  let c0_15 : Index := 0#32
  let c256 : Index := 256#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v33 : Index := Scalar.indexCast v4
  ![0, 256, v33.toNat]
def k0_off6 (k0_t1 : Fin k0_t1_loop.trips) (c0_i32_1 : BitVec 32) : Fin 3 → Nat :=
  let c0_18 : Index := 0#32
  let c320 : Index := 320#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v40 : Index := Scalar.indexCast v4
  ![0, 320, v40.toNat]
def k0_off7 (k0_t1 : Fin k0_t1_loop.trips) (c0_i32_1 : BitVec 32) : Fin 3 → Nat :=
  let c0_21 : Index := 0#32
  let c384 : Index := 384#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v47 : Index := Scalar.indexCast v4
  ![0, 384, v47.toNat]
def k0_off8 (k0_t1 : Fin k0_t1_loop.trips) (c0_i32_1 : BitVec 32) : Fin 3 → Nat :=
  let c0_24 : Index := 0#32
  let c448 : Index := 448#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v54 : Index := Scalar.indexCast v4
  ![0, 448, v54.toNat]
def k0_off9 (k0_t1 : Fin k0_t1_loop.trips) (c0_i32_1 : BitVec 32) : Fin 3 → Nat :=
  let c0_549 : Index := 0#32
  let c0_550 : Index := 0#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v984 : Index := Scalar.indexCast v4
  ![0, 0, v984.toNat]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32_551 : BitVec 32 := 2#32
  let v988 : BitVec 32 := Scalar.muli arg11 c2_i32_551
  let c1_i32_552 : BitVec 32 := 1#32
  let v989 : BitVec 32 := Scalar.addi v988 c1_i32_552
  let c128_i32_553 : BitVec 32 := 128#32
  let v990 : BitVec 32 := Scalar.muli v989 c128_i32_553
  v990
@[reducible] def k0_t2_loop : Scf.Loop 32 :=
  let c0_i32_1183 : BitVec 32 := 0#32
  let c10_i32 : BitVec 32 := 10#32
  let v1975 : BitVec 32 := Scalar.addi c0_i32_1183 c10_i32
  let c1_i32_1184 : BitVec 32 := 1#32
  ⟨c0_i32_1183, v1975, c1_i32_1184⟩
def k0_off10 (k0_t1 : Fin k0_t1_loop.trips) (c0_i32_1 : BitVec 32) : Fin 3 → Nat :=
  let c0_1780 : Index := 0#32
  let c0_1781 : Index := 0#32
  let c0_i32 : BitVec 32 := 0#32
  let c1_i32 : BitVec 32 := 1#32
  let arg11 : BitVec 32 := Scf.iv c0_i32 c1_i32 k0_t1
  let c2_i32 : BitVec 32 := 2#32
  let v1 : BitVec 32 := Scalar.muli arg11 c2_i32
  let v2 : BitVec 32 := Scalar.addi v1 c0_i32_1
  let c128_i32 : BitVec 32 := 128#32
  let v3 : BitVec 32 := Scalar.muli v2 c128_i32
  let v4 : BitVec 32 := v3
  let v3336 : Index := Scalar.indexCast v4
  ![0, 0, v3336.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S2x320x2x128 : Shape := ⟨4, ![2, 320, 2, 128]⟩
abbrev S2x320x1x128 : Shape := ⟨4, ![2, 320, 1, 128]⟩
abbrev S1x32x2x128 : Shape := ⟨4, ![1, 32, 2, 128]⟩
abbrev S1x32x1x128 : Shape := ⟨4, ![1, 32, 1, 128]⟩
abbrev S1x8x2x128 : Shape := ⟨4, ![1, 8, 2, 128]⟩
abbrev S1x8x1x128 : Shape := ⟨4, ![1, 8, 1, 128]⟩
abbrev S16x128 : Shape := ⟨2, ![16, 128]⟩
  | .local _ .vmem, ⟨12, _⟩ => ⟨S2x320x2x128, .bf16⟩
variable {F : FTy → Type} [FloatOps F] [Named F]
def κ : String → Option EReal := fun
  | "inv_growth" => some ((4194304 / 4236247 : ℝ) : EReal)
  | "neg_shrink_exp" => some ((-21810381 / 16777216 : ℝ) : EReal)
  | "shrink_exp" => some ((21810381 / 16777216 : ℝ) : EReal)
  | "step_init" => some ((1 / 640 : ℝ) : EReal)
  | _ => none
-- ==== ReferenceIdeal.lean ====
abbrev S3x512x18432 : Shape := ⟨3, ![3, 512, 18432]⟩
abbrev S3x8x64x18432 : Shape := ⟨4, ![3, 8, 64, 18432]⟩
abbrev S_ : Shape := ⟨0, ![]⟩
abbrev S3x8x18432 : Shape := ⟨3, ![3, 8, 18432]⟩
abbrev S3x8x1x18432 : Shape := ⟨4, ![3, 8, 1, 18432]⟩
abbrev S3x256x2x18432 : Shape := ⟨4, ![3, 256, 2, 18432]⟩
abbrev S3x256x1x18432 : Shape := ⟨4, ![3, 256, 1, 18432]⟩
abbrev S3x256x18432 : Shape := ⟨3, ![3, 256, 18432]⟩

abbrev nBuf : Space → Nat
  | .hbm => 149
  | .vmem => 0
  | .smem => 0
  | _ => 0

abbrev hbmTy0_0 (i : Nat) : BufTy := match i % 128 with
  | 0 => ⟨S3x512x18432, .bf16⟩
  | 1 => ⟨S3x512x18432, .f32⟩
  | 2 => ⟨S3x8x64x18432, .f32⟩
  | 3 => ⟨S_, .f32⟩
  | 4 => ⟨S3x8x18432, .f32⟩
  | 5 => ⟨S3x8x1x18432, .f32⟩
  | 6 => ⟨S_, .f32⟩
  | 7 => ⟨S3x8x18432, .f32⟩
  | 8 => ⟨S3x8x1x18432, .f32⟩
  | 9 => ⟨S3x8x1x18432, .i1⟩
  | 10 => ⟨S3x8x1x18432, .f32⟩
  | 11 => ⟨S_, .f32⟩
  | 12 => ⟨S3x8x1x18432, .f32⟩
  | 13 => ⟨S3x8x1x18432, .f32⟩
  | 14 => ⟨S_, .f32⟩
  | 15 => ⟨S3x8x1x18432, .f32⟩
  | 16 => ⟨S3x8x1x18432, .f32⟩
  | 17 => ⟨S_, .f32⟩
  | 18 => ⟨S3x8x1x18432, .f32⟩
  | 19 => ⟨S3x8x1x18432, .f32⟩
  | 20 => ⟨S3x8x1x18432, .f32⟩
  | 21 => ⟨S_, .i32⟩
  | 22 => ⟨S_, .f32⟩
  | 23 => ⟨S_, .i32⟩
  | 24 => ⟨S3x8x64x18432, .f32⟩
  | 25 => ⟨S3x8x1x18432, .f32⟩
  | 26 => ⟨S_, .i32⟩
  | 27 => ⟨S_, .i32⟩
  | 28 => ⟨S3x8x1x18432, .f32⟩
  | 29 => ⟨S_, .f32⟩
  | 30 => ⟨S_, .i32⟩
  | 31 => ⟨S_, .i1⟩
  | 32 => ⟨S_, .i32⟩
  | 33 => ⟨S_, .i32⟩
  | 34 => ⟨S3x8x64x18432, .f32⟩
  | 35 => ⟨S3x8x64x18432, .f32⟩
  | 36 => ⟨S3x8x64x18432, .f32⟩
  | 37 => ⟨S3x8x64x18432, .f32⟩
  | 38 => ⟨S3x8x64x18432, .f32⟩
  | 39 => ⟨S_, .f32⟩
  | 40 => ⟨S_, .f32⟩
  | 41 => ⟨S_, .f32⟩
  | 42 => ⟨S3x8x64x18432, .f32⟩
  | 43 => ⟨S3x8x64x18432, .f32⟩
  | 44 => ⟨S_, .f32⟩
  | 45 => ⟨S3x8x64x18432, .f32⟩
  | 46 => ⟨S3x8x64x18432, .f32⟩
  | 47 => ⟨S3x8x64x18432, .f32⟩
  | 48 => ⟨S3x8x64x18432, .f32⟩
  | 49 => ⟨S3x8x64x18432, .f32⟩
  | 50 => ⟨S3x8x64x18432, .f32⟩
  | 51 => ⟨S3x8x64x18432, .f32⟩
  | 52 => ⟨S3x8x64x18432, .f32⟩
  | 53 => ⟨S3x8x64x18432, .f32⟩
  | 54 => ⟨S_, .f32⟩
  | 55 => ⟨S_, .f32⟩
  | 56 => ⟨S_, .f32⟩
  | 57 => ⟨S3x8x64x18432, .f32⟩
  | 58 => ⟨S3x8x64x18432, .i1⟩
  | 59 => ⟨S_, .f32⟩
  | 60 => ⟨S3x8x64x18432, .f32⟩
  | 61 => ⟨S3x8x64x18432, .f32⟩
  | 62 => ⟨S_, .f32⟩
  | 63 => ⟨S3x8x64x18432, .f32⟩
  | 64 => ⟨S3x8x64x18432, .f32⟩
  | 65 => ⟨S3x8x64x18432, .f32⟩
  | 66 => ⟨S3x8x64x18432, .f32⟩
  | 67 => ⟨S3x8x64x18432, .f32⟩
  | 68 => ⟨S_, .f32⟩
  | 69 => ⟨S3x8x64x18432, .f32⟩
  | 70 => ⟨S3x8x64x18432, .f32⟩
  | 71 => ⟨S3x8x64x18432, .f32⟩
  | 72 => ⟨S3x8x64x18432, .f32⟩
  | 73 => ⟨S3x8x64x18432, .f32⟩
  | 74 => ⟨S3x8x64x18432, .f32⟩
  | 75 => ⟨S3x8x64x18432, .f32⟩
  | 76 => ⟨S_, .f32⟩
  | 77 => ⟨S3x8x18432, .f32⟩
  | 78 => ⟨S3x8x1x18432, .f32⟩
  | 79 => ⟨S_, .f32⟩
  | 80 => ⟨S3x8x1x18432, .f32⟩
  | 81 => ⟨S3x8x1x18432, .f32⟩
  | 82 => ⟨S_, .f32⟩
  | 83 => ⟨S_, .f32⟩
  | 84 => ⟨S_, .i32⟩
  | 85 => ⟨S_, .i32⟩
  | 86 => ⟨S3x512x18432, .f32⟩
  | 87 => ⟨S3x8x64x18432, .f32⟩
  | 88 => ⟨S_, .f32⟩
  | 89 => ⟨S3x8x18432, .f32⟩
  | 90 => ⟨S3x8x1x18432, .f32⟩
  | 91 => ⟨S_, .f32⟩
  | 92 => ⟨S3x8x18432, .f32⟩
  | 93 => ⟨S3x8x1x18432, .f32⟩
  | 94 => ⟨S3x8x1x18432, .i1⟩
  | 95 => ⟨S3x8x1x18432, .f32⟩
  | 96 => ⟨S_, .f32⟩
  | 97 => ⟨S3x8x1x18432, .f32⟩
  | 98 => ⟨S3x8x1x18432, .f32⟩
  | 99 => ⟨S_, .f32⟩
  | 100 => ⟨S3x8x1x18432, .f32⟩
  | 101 => ⟨S3x8x1x18432, .f32⟩
  | 102 => ⟨S_, .f32⟩
  | 103 => ⟨S3x8x1x18432, .f32⟩
  | 104 => ⟨S3x8x1x18432, .f32⟩
  | 105 => ⟨S3x8x1x18432, .f32⟩
  | 106 => ⟨S3x8x64x18432, .f32⟩
  | 107 => ⟨S3x8x64x18432, .f32⟩
  | 108 => ⟨S3x8x64x18432, .f32⟩
  | 109 => ⟨S3x8x64x18432, .f32⟩
  | 110 => ⟨S3x8x64x18432, .f32⟩
  | 111 => ⟨S_, .f32⟩
  | 112 => ⟨S_, .f32⟩
  | 113 => ⟨S_, .f32⟩
  | 114 => ⟨S3x8x64x18432, .f32⟩
  | 115 => ⟨S3x8x64x18432, .f32⟩
  | 116 => ⟨S_, .f32⟩
  | 117 => ⟨S3x8x64x18432, .f32⟩
  | 118 => ⟨S3x8x64x18432, .f32⟩
  | 119 => ⟨S3x8x64x18432, .i32⟩
  | 120 => ⟨S3x8x64x18432, .f32⟩
  | 121 => ⟨S3x8x64x18432, .f32⟩
  | 122 => ⟨S3x8x64x18432, .f32⟩
  | 123 => ⟨S3x8x64x18432, .f32⟩
  | 124 => ⟨S3x8x64x18432, .f32⟩
  | 125 => ⟨S3x8x64x18432, .f32⟩
  | 126 => ⟨S3x8x64x18432, .f32⟩
  | 127 => ⟨S_, .f32⟩
  | _ => ⟨S3x512x18432, .bf16⟩

abbrev hbmTy0_1 (i : Nat) : BufTy := match i % 128 with
  | 0 => ⟨S3x8x64x18432, .f32⟩
  | 1 => ⟨S3x8x64x18432, .f32⟩
  | 2 => ⟨S_, .f32⟩
  | 3 => ⟨S3x8x18432, .f32⟩
  | 4 => ⟨S_, .f32⟩
  | 5 => ⟨S3x8x18432, .f32⟩
  | 6 => ⟨S3x8x18432, .f32⟩
  | 7 => ⟨S3x8x1x18432, .f32⟩
  | 8 => ⟨S3x8x18432, .f32⟩
  | 9 => ⟨S3x8x18432, .f32⟩
  | 10 => ⟨S3x8x18432, .f32⟩
  | 11 => ⟨S3x256x2x18432, .i32⟩
  | 12 => ⟨S3x256x1x18432, .i32⟩
  | 13 => ⟨S3x256x18432, .i32⟩
  | 14 => ⟨S3x256x1x18432, .i32⟩
  | 15 => ⟨S3x256x18432, .i32⟩
  | 16 => ⟨S_, .i32⟩
  | 17 => ⟨S3x256x18432, .i32⟩
  | 18 => ⟨S3x256x18432, .i32⟩
  | 19 => ⟨S3x256x18432, .i32⟩
  | 20 => ⟨S3x256x18432, .i8⟩
  | _ => ⟨S3x512x18432, .bf16⟩

abbrev hbmTy (i : Nat) : BufTy := match i / 128 with
  | 0 => hbmTy0_0 i
  | 1 => hbmTy0_1 i
  | _ => ⟨S3x512x18432, .bf16⟩

abbrev bufTy : (tb : Table) → Fin (tcTables nBuf tb) → BufTy
  | .hbm, ⟨i, _⟩ => hbmTy i
  | _, _ => ⟨S3x512x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_call0_v0 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_cst_4 : Ref sig .tc := ⟨.hbm, 22, rfl⟩
abbrev main_c_5 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_while0c_c_22 : Ref sig .tc := ⟨.hbm, 30, rfl⟩
abbrev main_while0c_v61 : Ref sig .tc := ⟨.hbm, 31, rfl⟩
abbrev main_while0b_c_22 : Ref sig .tc := ⟨.hbm, 32, rfl⟩
abbrev main_while0b_v61 : Ref sig .tc := ⟨.hbm, 33, rfl⟩
abbrev main_while0b_v62 : Ref sig .tc := ⟨.hbm, 34, rfl⟩
abbrev main_while0b_v63 : Ref sig .tc := ⟨.hbm, 35, rfl⟩
abbrev main_while0b_v64 : Ref sig .tc := ⟨.hbm, 36, rfl⟩
abbrev main_while0b_v65 : Ref sig .tc := ⟨.hbm, 37, rfl⟩
abbrev main_while0b_v66 : Ref sig .tc := ⟨.hbm, 38, rfl⟩
abbrev main_while0b_cst_23 : Ref sig .tc := ⟨.hbm, 39, rfl⟩
abbrev main_while0b_cst_24 : Ref sig .tc := ⟨.hbm, 40, rfl⟩
abbrev main_while0b_call2_v0 : Ref sig .tc := ⟨.hbm, 41, rfl⟩
abbrev main_while0b_call2_v1 : Ref sig .tc := ⟨.hbm, 42, rfl⟩
abbrev main_while0b_call2_v2 : Ref sig .tc := ⟨.hbm, 43, rfl⟩
abbrev main_while0b_call2_v3 : Ref sig .tc := ⟨.hbm, 44, rfl⟩
abbrev main_while0b_call2_v4 : Ref sig .tc := ⟨.hbm, 45, rfl⟩
abbrev main_while0b_v67 : Ref sig .tc := ⟨.hbm, 46, rfl⟩
abbrev main_while0b_v68 : Ref sig .tc := ⟨.hbm, 47, rfl⟩
abbrev main_while0b_v69 : Ref sig .tc := ⟨.hbm, 48, rfl⟩
abbrev main_while0b_v70 : Ref sig .tc := ⟨.hbm, 49, rfl⟩
abbrev main_while0b_v71 : Ref sig .tc := ⟨.hbm, 50, rfl⟩
abbrev main_while0b_v72 : Ref sig .tc := ⟨.hbm, 51, rfl⟩
abbrev main_while0b_v73 : Ref sig .tc := ⟨.hbm, 52, rfl⟩
abbrev main_while0b_v74 : Ref sig .tc := ⟨.hbm, 53, rfl⟩
abbrev main_while0b_cst_25 : Ref sig .tc := ⟨.hbm, 54, rfl⟩
abbrev main_while0b_v75 : Ref sig .tc := ⟨.hbm, 55, rfl⟩
abbrev main_while0b_cst_26 : Ref sig .tc := ⟨.hbm, 56, rfl⟩
abbrev main_while0b_v76 : Ref sig .tc := ⟨.hbm, 57, rfl⟩
abbrev main_while0b_v77 : Ref sig .tc := ⟨.hbm, 58, rfl⟩
abbrev main_while0b_cst_27 : Ref sig .tc := ⟨.hbm, 59, rfl⟩
abbrev main_while0b_call3_v0 : Ref sig .tc := ⟨.hbm, 60, rfl⟩
abbrev main_while0b_v78 : Ref sig .tc := ⟨.hbm, 61, rfl⟩
abbrev main_while0b_cst_28 : Ref sig .tc := ⟨.hbm, 62, rfl⟩
abbrev main_while0b_v79 : Ref sig .tc := ⟨.hbm, 63, rfl⟩
abbrev main_while0b_v80 : Ref sig .tc := ⟨.hbm, 64, rfl⟩
abbrev main_while0b_v81 : Ref sig .tc := ⟨.hbm, 65, rfl⟩
abbrev main_while0b_v82 : Ref sig .tc := ⟨.hbm, 66, rfl⟩
abbrev main_while0b_v83 : Ref sig .tc := ⟨.hbm, 67, rfl⟩
abbrev main_while0b_cst_29 : Ref sig .tc := ⟨.hbm, 68, rfl⟩
abbrev main_while0b_v84 : Ref sig .tc := ⟨.hbm, 69, rfl⟩
abbrev main_while0b_v85 : Ref sig .tc := ⟨.hbm, 70, rfl⟩
abbrev main_while0b_v86 : Ref sig .tc := ⟨.hbm, 71, rfl⟩
abbrev main_while0b_v87 : Ref sig .tc := ⟨.hbm, 72, rfl⟩
abbrev main_while0b_v88 : Ref sig .tc := ⟨.hbm, 73, rfl⟩
abbrev main_while0b_v89 : Ref sig .tc := ⟨.hbm, 74, rfl⟩
abbrev main_while0b_v90 : Ref sig .tc := ⟨.hbm, 75, rfl⟩
abbrev main_while0b_cst_30 : Ref sig .tc := ⟨.hbm, 76, rfl⟩
abbrev main_while0b_v91 : Ref sig .tc := ⟨.hbm, 77, rfl⟩
abbrev main_while0b_v92 : Ref sig .tc := ⟨.hbm, 78, rfl⟩
abbrev main_while0b_cst_31 : Ref sig .tc := ⟨.hbm, 79, rfl⟩
abbrev main_while0b_v93 : Ref sig .tc := ⟨.hbm, 80, rfl⟩
abbrev main_while0b_v94 : Ref sig .tc := ⟨.hbm, 81, rfl⟩
abbrev main_while0b_cst_32 : Ref sig .tc := ⟨.hbm, 82, rfl⟩
abbrev main_while0b_v95 : Ref sig .tc := ⟨.hbm, 83, rfl⟩
abbrev main_while0b_c_33 : Ref sig .tc := ⟨.hbm, 84, rfl⟩
abbrev main_while0b_v96 : Ref sig .tc := ⟨.hbm, 85, rfl⟩
abbrev main_v15 : Ref sig .tc := ⟨.hbm, 86, rfl⟩
abbrev main_v16 : Ref sig .tc := ⟨.hbm, 87, rfl⟩
abbrev main_cst_6 : Ref sig .tc := ⟨.hbm, 88, rfl⟩
abbrev main_v17 : Ref sig .tc := ⟨.hbm, 89, rfl⟩
abbrev main_v18 : Ref sig .tc := ⟨.hbm, 90, rfl⟩
abbrev main_cst_7 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_cst_8 : Ref sig .tc := ⟨.hbm, 96, rfl⟩
abbrev main_v23 : Ref sig .tc := ⟨.hbm, 97, rfl⟩
abbrev main_v24 : Ref sig .tc := ⟨.hbm, 98, rfl⟩
abbrev main_cst_9 : Ref sig .tc := ⟨.hbm, 99, rfl⟩
abbrev main_call4_v0 : Ref sig .tc := ⟨.hbm, 100, rfl⟩
abbrev main_v25 : Ref sig .tc := ⟨.hbm, 101, rfl⟩
abbrev main_cst_10 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_cst_11 : Ref sig .tc := ⟨.hbm, 111, rfl⟩
abbrev main_cst_12 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_cst_13 : Ref sig .tc := ⟨.hbm, 127, rfl⟩
abbrev main_v43 : Ref sig .tc := ⟨.hbm, 128, rfl⟩
abbrev main_v44 : Ref sig .tc := ⟨.hbm, 129, rfl⟩
abbrev main_cst_14 : Ref sig .tc := ⟨.hbm, 130, rfl⟩
abbrev main_v45 : Ref sig .tc := ⟨.hbm, 131, rfl⟩
abbrev main_cst_15 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_c_16 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩

abbrev nD : Nat := 1
abbrev τ : Topo := Topo.v7x

variable {F : FTy → Type} [FloatOps F]

abbrev main_while0_count : Scf.Loop 32 := ⟨0#32, 20#32, 1#32⟩
-- ==== Proof.KernelKeeps.lean ====
/-
  The frame of the kernel as printed. Its body only loads and stores through its nine memrefs, so it runs from
  the input block held at its contents and the eight others held at some contents, and hands all nine back the
  same way (`Keeps`): one lemma per kind of statement, applied along the body.
-/
module

public import proofs.«01_k».proof.Proof.Gen.Kernel.Skeleton
public import proofs.«01_k».proof.Proof.Gen.Kernel.Frame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## Programs that keep a resource -/

/-- The program runs from `R` and hands `R` back. -/
def Keeps (c : Dev nD) (E : Set ℕ) (R : sProp 𝕄) {α : Type} (p : Prog (TpuEff nD τ sig (Elt F) Λ₀ .tc) α) : Prop :=
  R ⊢ wp frame (wpE (defs₀ (F := F)) Variants.none (c : Thread nD τ) none) E p (fun _ => R)

/-- `R` holds memref `m` at some contents, and takes it back at the same. -/
def Reads (c : Dev nD) (R : sProp 𝕄) {s : Shape} {e : EltTy} (m : Memref sig .tc .vmem s e) : Prop :=
  R ⊢ iprop(∃ f, (m.view.loc (c : Thread nD τ) ↦[m.view.set]{fullShare} f)
    ∗ ((m.view.loc (c : Thread nD τ) ↦[m.view.set]{fullShare} f) -∗ R))

/-- `R` holds memref `m` at some contents, and takes it back at any. -/
def Holds (c : Dev nD) (R : sProp 𝕄) {s : Shape} {e : EltTy} (m : Memref sig .tc .vmem s e) : Prop :=
  R ⊢ iprop(∃ f, (m.view.loc (c : Thread nD τ) ↦[m.view.set]{fullShare} f)
    ∗ (∀ f', (m.view.loc (c : Thread nD τ) ↦[m.view.set]{fullShare} f') -∗ R))

theorem Holds.reads {c : Dev nD} {R : sProp 𝕄} {s : Shape} {e : EltTy} {m : Memref sig .tc .vmem s e}
    (h : Holds c R m) : Reads c R m := by
  refine h.trans ?_
  iintro ⟨%f, H, HR⟩
  iexists f
  isplitl [H]; · iexact H
  iapply HR

/-- The first of several memrefs is held. -/
theorem Holds.head {c : Dev nD} {Q : sProp 𝕄} {s : Shape} {e : EltTy} {m : Memref sig .tc .vmem s e} :
    Holds c iprop((∃ f, m.view.loc (c : Thread nD τ) ↦[m.view.set]{fullShare} f) ∗ Q) m := by
  unfold Holds
  iintro ⟨⟨%f, H⟩, HQ⟩
  iexists f
  isplitl [H]; · iexact H
  iintro %f' H
  isplitl [H]
  · iexists f'; iexact H
  iexact HQ

/-- A memref held alone is held. -/
theorem Holds.last {c : Dev nD} {s : Shape} {e : EltTy} {m : Memref sig .tc .vmem s e} :
    Holds (F := F) c iprop(∃ f, m.view.loc (c : Thread nD τ) ↦[m.view.set]{fullShare} f) m := by
  unfold Holds
  iintro ⟨%f, H⟩
  iexists f
  isplitl [H]; · iexact H
  iintro %f' H
  iexists f'; iexact H

/-- A memref held after another is held. -/
theorem Holds.skip {c : Dev nD} {P R : sProp 𝕄} {s : Shape} {e : EltTy} {m : Memref sig .tc .vmem s e}
    (h : Holds c R m) : Holds c iprop(P ∗ R) m := by
  unfold Holds at h ⊢
  iintro ⟨HP, HR⟩
  have h' := h
  ihave HR := h' $$ HR
  icases HR with ⟨%f, H, HR⟩
  iexists f
  isplitl [H]; · iexact H
  iintro %f' H
  isplitl [HP]; · iexact HP
  iapply HR; iexact H

theorem Keeps.ret {c : Dev nD} {E : Set ℕ} {R : sProp 𝕄} {α : Type} (a : α) :
    Keeps c E R (pure a : Prog (TpuEff nD τ sig (Elt F) Λ₀ .tc) α) :=
  le_wp_ret _ _ _ a fun _ => R

theorem Keeps.bind {c : Dev nD} {E : Set ℕ} {R : sProp 𝕄} {α β : Type}
    {p : Prog (TpuEff nD τ sig (Elt F) Λ₀ .tc) α} {k : α → Prog (TpuEff nD τ sig (Elt F) Λ₀ .tc) β}
    (hp : Keeps c E R p) (hk : ∀ a, Keeps c E R (k a)) : Keeps c E R (p >>= k) := by
  unfold Keeps; rw [wp_bind]; exact hp.trans (wp_mono _ _ _ hk)

theorem Keeps.load {c : Dev nD} {E : Set ℕ} {R : sProp 𝕄} {s : Shape} {e : EltTy} {m : Memref sig .tc .vmem s e}
    {r : LoadRect s} {hl : m.view.LoadsAt r} (h : Reads c R m) :
    Keeps (F := F) c E R (Prog.lift (.load m r hl)) := by
  refine h.trans ?_
  iintro ⟨%f, H, HR⟩
  iapply (wp_load Variants.none (c : Thread nD τ) none E (View.setOn_subset_set _ _)) $$ H
  iintro H
  iapply (le_wp_ret)
  iapply HR; iexact H

theorem Keeps.store {c : Dev nD} {E : Set ℕ} {R : sProp 𝕄} {s : Shape} {e : EltTy} {m : Memref sig .tc .vmem s e}
    {r : Rect s} {w : r.shape.Idx → Elt F e} {Mk : Finset r.shape.Idx} {hx : (m.access r).Stores Mk}
    {hm : Mk = Finset.univ ∨ ∀ a, r.stride a = 1} (h : Holds c R m) :
    Keeps (F := F) c E R (Prog.lift (.store m r w Mk hx hm)) := by
  refine h.trans ?_
  iintro ⟨%f, H, HR⟩
  have hw := wp_store (defs := defs₀ (F := F)) (Ix := Unit) (Name := ℕ) (U := UR sig nD τ) (Lvl := ℕ) (Γ := .empty) Variants.none
    (c : Thread nD τ) none E (Q := fun _ => R) (m := m) (r := r) (w := w) (Mk := Mk) (hx := hx) (hm := hm) (k := Prog.ret)
    (S := m.view.set) (f := f) ((View.setOn_subset_set _ _).trans (View.set_slice_subset _ _))
  iapply hw $$ H
  iintro H
  iapply (le_wp_ret)
  iapply HR; iexact H

theorem Keeps.for {c : Dev nD} {E : Set ℕ} {R : sProp 𝕄} {σ : Type} {l : Scf.Loop 32} {hok : l.OK} {init : σ}
    {body : Fin l.trips → σ → Prog (TpuEff nD τ sig (Elt F) Λ₀ .tc) σ} (h : ∀ k acc, Keeps c E R (body k acc)) :
    Keeps c E R (Scf.Loop.for l hok init body) := by
  refine BIBase.Entails.trans ?_ (Scf.wp_for _ _ _ l.lb l.ub l.st hok init body (fun _ _ => R) h)
  iintro H
  isplitl [H]; · iexact H
  iintro %acc H; iexact H

/-! ## The body keeps its memrefs -/

section Body

variable (i : grid0.Coords)
  (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x128 .i32) (harg8 : arg8.IsWhole) (arg9 : Memref sig .tc .vmem S2x64x8x128 .f32) (harg9 : arg9.IsWhole) (arg10 : Memref sig .tc .vmem S2x64x128 .i32) (harg10 : arg10.IsWhole)
  (c : Dev nD) (x0 : Vec F S1x512x1024 .bf16)

/-- Memref `M` held at some contents. -/
abbrev any {s : Shape} {e : EltTy} (M : Memref sig .tc .vmem s e) : sProp 𝕄 :=
  iprop(∃ f, M.view.loc (c : Thread nD τ) ↦[M.view.set]{fullShare} f)

/-- The nine memrefs of the body: the input block at `x0`, the others at some contents. -/
def mems : sProp 𝕄 :=
  iprop(owns (c : Thread nD τ) arg2 fullShare x0 ∗ any c arg3 ∗ any c arg4 ∗ any c arg5 ∗ any c arg6 ∗ any c arg7
    ∗ any c arg8 ∗ any c arg9 ∗ any c arg10)

theorem reads2 : Reads (F := F) c (mems (F := F) arg2 arg3 arg4 arg5 arg6 arg7 arg8 arg9 arg10 c x0) arg2 := by
  unfold Reads mems owns
  iintro ⟨⟨%f, %hf, H2⟩, HR⟩
  iexists f
  isplitl [H2]; · iexact H2
  iintro H2
  isplitl [H2]
  · iexists f; isplitr; · ipureintro; exact hf
    iexact H2
  iexact HR

theorem holds3 : Holds (F := F) c (mems (F := F) arg2 arg3 arg4 arg5 arg6 arg7 arg8 arg9 arg10 c x0) arg3 :=
  (Holds.head).skip

theorem holds4 : Holds (F := F) c (mems (F := F) arg2 arg3 arg4 arg5 arg6 arg7 arg8 arg9 arg10 c x0) arg4 :=
  (Holds.head).skip.skip

theorem holds5 : Holds (F := F) c (mems (F := F) arg2 arg3 arg4 arg5 arg6 arg7 arg8 arg9 arg10 c x0) arg5 :=
  (Holds.head).skip.skip.skip

theorem holds6 : Holds (F := F) c (mems (F := F) arg2 arg3 arg4 arg5 arg6 arg7 arg8 arg9 arg10 c x0) arg6 :=
  (Holds.head).skip.skip.skip.skip

theorem holds7 : Holds (F := F) c (mems (F := F) arg2 arg3 arg4 arg5 arg6 arg7 arg8 arg9 arg10 c x0) arg7 :=
  (Holds.head).skip.skip.skip.skip.skip

theorem holds8 : Holds (F := F) c (mems (F := F) arg2 arg3 arg4 arg5 arg6 arg7 arg8 arg9 arg10 c x0) arg8 :=
  (Holds.head).skip.skip.skip.skip.skip.skip

theorem holds9 : Holds (F := F) c (mems (F := F) arg2 arg3 arg4 arg5 arg6 arg7 arg8 arg9 arg10 c x0) arg9 :=
  (Holds.head).skip.skip.skip.skip.skip.skip.skip

theorem holds10 : Holds (F := F) c (mems (F := F) arg2 arg3 arg4 arg5 arg6 arg7 arg8 arg9 arg10 c x0) arg10 :=
  (Holds.last).skip.skip.skip.skip.skip.skip.skip.skip

set_option maxHeartbeats 4000000 in
/-- One trip of the outer loop keeps the nine memrefs. -/
theorem body_keeps (E : Set ℕ) (k : Fin k0_t1_loop.trips) (u : Unit) :
    Keeps (F := F) c E (mems (F := F) arg2 arg3 arg4 arg5 arg6 arg7 arg8 arg9 arg10 c x0) (k0_t1_body i arg2 harg2 arg3 harg3 arg4 harg4 arg5 harg5 arg6 harg6 arg7 harg7 arg8 harg8 arg9 harg9 arg10 harg10 k u) := by
  have h2 := reads2 (F := F) arg2 arg3 arg4 arg5 arg6 arg7 arg8 arg9 arg10 c x0
  have h3 := holds3 (F := F) arg2 arg3 arg4 arg5 arg6 arg7 arg8 arg9 arg10 c x0
  have h4 := holds4 (F := F) arg2 arg3 arg4 arg5 arg6 arg7 arg8 arg9 arg10 c x0
  have h5 := holds5 (F := F) arg2 arg3 arg4 arg5 arg6 arg7 arg8 arg9 arg10 c x0
  have h6 := holds6 (F := F) arg2 arg3 arg4 arg5 arg6 arg7 arg8 arg9 arg10 c x0
  have h7 := holds7 (F := F) arg2 arg3 arg4 arg5 arg6 arg7 arg8 arg9 arg10 c x0
  have h8 := holds8 (F := F) arg2 arg3 arg4 arg5 arg6 arg7 arg8 arg9 arg10 c x0
  have h9 := holds9 (F := F) arg2 arg3 arg4 arg5 arg6 arg7 arg8 arg9 arg10 c x0
  have h10 := holds10 (F := F) arg2 arg3 arg4 arg5 arg6 arg7 arg8 arg9 arg10 c x0
  generalize mems arg2 arg3 arg4 arg5 arg6 arg7 arg8 arg9 arg10 c x0 = R at *
  unfold k0_t1_body
  repeat' first
    | with_reducible exact Keeps.ret _
    | with_reducible refine Keeps.bind ?_ fun _ => ?_
    | with_reducible (refine Keeps.load ?_; first | exact h2 | exact Holds.reads (by assumption))
    | with_reducible (refine Keeps.store ?_; assumption)
    | with_reducible refine Keeps.for fun _ _ => ?_
    | split
    | refine Keeps.bind ?_ fun _ => ?_

end Body

end Cert.Kernel.Hand

end
-- ==== Proof.KernelFrame.lean ====
/-
  The frame of the kernel as printed: the body's triple from `body_keeps`, the pipeline's proof data with the five
  outputs left unnamed, and the run.
-/
module

public import proofs.«01_k».proof.Proof.KernelKeeps
public import Idealize.ShloMosaic.Lib.Pipeline.FrameBody
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

theorem any_of_owns (c : Dev nD) {s : Shape} {e : EltTy} (M : Memref sig .tc .vmem s e) :
    iprop(∃ d, owns (c : Thread nD τ) M fullShare d) ⊢ (any (F := F) c M : sProp 𝕄) := by
  unfold any owns
  iintro ⟨%d, %f, -, H⟩
  iexists f; iexact H

theorem owns_of_any (c : Dev nD) {s : Shape} {e : EltTy} (M : Memref sig .tc .vmem s e) :
    (any (F := F) c M : sProp 𝕄) ⊢ iprop(∃ d, owns (c : Thread nD τ) M fullShare d) := by
  unfold any owns
  iintro ⟨%f, H⟩
  iexists _, f
  isplitr; · ipureintro; rfl
  iexact H

/-- The body hands back the input block as it was and the other eight memrefs at some contents. -/
theorem body_run (c : Dev nD) (i : grid0.Coords) (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x128 .i32) (harg8 : arg8.IsWhole) (arg9 : Memref sig .tc .vmem S2x64x8x128 .f32) (harg9 : arg9.IsWhole) (arg10 : Memref sig .tc .vmem S2x64x128 .i32) (harg10 : arg10.IsWhole)
    (x0 : Vec F S1x512x1024 .bf16) :
    (iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) : sProp 𝕄)
      ⊢ wp frame (wpE (defs₀ (F := F)) Variants.none c none) Set.univ (cc0_hqq_fit i arg2 harg2 arg3 harg3 arg4 harg4 arg5 harg5 arg6 harg6 arg7 harg7 arg8 harg8 arg9 harg9 arg10 harg10)
          (fun _ => (iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) : sProp 𝕄)) := by
  have hk : Keeps (F := F) c Set.univ (mems arg2 arg3 arg4 arg5 arg6 arg7 arg8 arg9 arg10 c x0) (cc0_hqq_fit i arg2 harg2 arg3 harg3 arg4 harg4 arg5 harg5 arg6 harg6 arg7 harg7 arg8 harg8 arg9 harg9 arg10 harg10) := by
    rw [cc0_hqq_fit_eq_skeleton]
    unfold cc0_hqq_fit_skel
    exact Keeps.bind (Keeps.for fun k u => body_keeps i arg2 harg2 arg3 harg3 arg4 harg4 arg5 harg5 arg6 harg6 arg7 harg7 arg8 harg8 arg9 harg9 arg10 harg10 c x0 Set.univ k u) fun _ => Keeps.ret _
  unfold Keeps at hk
  refine BIBase.Entails.trans ?_ (hk.trans (wp_mono _ _ _ fun _ => ?_))
  · unfold mems
    iintro ⟨H2, H3, H4, H5, H6, H7, H8, H9, H10⟩
    isplitl [H2]; · iexact H2
    isplitl [H3]; · iapply (any_of_owns c _); iexact H3
    isplitl [H4]; · iapply (any_of_owns c _); iexact H4
    isplitl [H5]; · iapply (any_of_owns c _); iexact H5
    isplitl [H6]; · iapply (any_of_owns c _); iexact H6
    isplitl [H7]; · iapply (any_of_owns c _); iexact H7
    isplitl [H8]; · iapply (any_of_owns c _); iexact H8
    isplitl [H9]; · iapply (any_of_owns c _); iexact H9
    iapply (any_of_owns c _); iexact H10
  · unfold mems
    iintro ⟨H2, H3, H4, H5, H6, H7, H8, H9, H10⟩
    isplitl [H2]; · iexact H2
    isplitl [H3]; · iapply (owns_of_any c _); iexact H3
    isplitl [H4]; · iapply (owns_of_any c _); iexact H4
    isplitl [H5]; · iapply (owns_of_any c _); iexact H5
    isplitl [H6]; · iapply (owns_of_any c _); iexact H6
    isplitl [H7]; · iapply (owns_of_any c _); iexact H7
    isplitl [H8]; · iapply (owns_of_any c _); iexact H8
    isplitl [H9]; · iapply (owns_of_any c _); iexact H9
    iapply (owns_of_any c _); iexact H10

variable (m : (ℓ : Loc nD τ sig) → Buf (Elt F) ℓ) (ρ : Dev nD → PrngReg)

/-- Window `w`'s staging memref at point `t`, as the pipeline passes it. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x1024 .f32 := win0_5.stage (cfg0.slots t 5)
abbrev hs0_5 (t : Fin cfg0.N) : (ms0_5 t).IsWhole := hstage0_5 ((cfg0.slots t 5).cast nbuf0_5)
abbrev scM0_0 : Memref sig .tc .vmem S2x320x128 .i32 := Memref.whole cc0_scratch0
abbrev scM0_1 : Memref sig .tc .vmem S2x64x8x128 .f32 := Memref.whole cc0_scratch1
abbrev scM0_2 : Memref sig .tc .vmem S2x64x128 .i32 := Memref.whole cc0_scratch2

/-- The invariant between grid points: the three scratch memrefs at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- The five output windows, of whose contents nothing is said. -/
def forgets0 : Fin 6 → Bool := fun w => w.val != 0

/-- The pipeline's proof data: the input window's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  have hrun := body_run (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) scM0_2 (Memref.isWhole_whole _)
    (iblk m c 0 t)
  iintro ⟨⟨⟨HS0, HS1, HS2⟩, Hg⟩, Ho, ⟨%d0, H0⟩, H1, H2, H3, H4, H5⟩
  iapply wp_wand_r
  isplitl [H0 H1 H2 H3 H4 H5 HS0 HS1 HS2]
  · iapply hrun
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro %_ ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the input array as it was, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any floats. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (Pipeline.RDat.FramePost.arr_in h.1 c 0 rfl).trans ((A_eq m c 0).trans (V_main_arg0 m c)), h.2⟩)
    (run_main_quiescent m ρ)

end Cert.Kernel.Hand

end
-- ==== Proof.IdealKeeps.lean ====
/-
  The frame of the idealized kernel. Its body only loads and stores through its nine memrefs, so it runs from
  the input block held at its contents and the eight others held at some contents, and hands all nine back the
  same way (`Keeps`): one lemma per kind of statement, applied along the body.
-/
module

public import proofs.«01_k».proof.Proof.Gen.KernelIdeal.Skeleton
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Programs that keep a resource -/

/-- The program runs from `R` and hands `R` back. -/
def Keeps (c : Dev nD) (E : Set ℕ) (R : sProp 𝕄) {α : Type} (p : Prog (TpuEff nD τ sig (Elt F) Λ₀ .tc) α) : Prop :=
  R ⊢ wp frame (wpE (defs₀ (F := F)) Variants.none (c : Thread nD τ) none) E p (fun _ => R)

/-- `R` holds memref `m` at some contents, and takes it back at the same. -/
def Reads (c : Dev nD) (R : sProp 𝕄) {s : Shape} {e : EltTy} (m : Memref sig .tc .vmem s e) : Prop :=
  R ⊢ iprop(∃ f, (m.view.loc (c : Thread nD τ) ↦[m.view.set]{fullShare} f)
    ∗ ((m.view.loc (c : Thread nD τ) ↦[m.view.set]{fullShare} f) -∗ R))

/-- `R` holds memref `m` at some contents, and takes it back at any. -/
def Holds (c : Dev nD) (R : sProp 𝕄) {s : Shape} {e : EltTy} (m : Memref sig .tc .vmem s e) : Prop :=
  R ⊢ iprop(∃ f, (m.view.loc (c : Thread nD τ) ↦[m.view.set]{fullShare} f)
    ∗ (∀ f', (m.view.loc (c : Thread nD τ) ↦[m.view.set]{fullShare} f') -∗ R))

theorem Holds.reads {c : Dev nD} {R : sProp 𝕄} {s : Shape} {e : EltTy} {m : Memref sig .tc .vmem s e}
    (h : Holds c R m) : Reads c R m := by
  refine h.trans ?_
  iintro ⟨%f, H, HR⟩
  iexists f
  isplitl [H]; · iexact H
  iapply HR

/-- The first of several memrefs is held. -/
theorem Holds.head {c : Dev nD} {Q : sProp 𝕄} {s : Shape} {e : EltTy} {m : Memref sig .tc .vmem s e} :
    Holds c iprop((∃ f, m.view.loc (c : Thread nD τ) ↦[m.view.set]{fullShare} f) ∗ Q) m := by
  unfold Holds
  iintro ⟨⟨%f, H⟩, HQ⟩
  iexists f
  isplitl [H]; · iexact H
  iintro %f' H
  isplitl [H]
  · iexists f'; iexact H
  iexact HQ

/-- A memref held alone is held. -/
theorem Holds.last {c : Dev nD} {s : Shape} {e : EltTy} {m : Memref sig .tc .vmem s e} :
    Holds (F := F) c iprop(∃ f, m.view.loc (c : Thread nD τ) ↦[m.view.set]{fullShare} f) m := by
  unfold Holds
  iintro ⟨%f, H⟩
  iexists f
  isplitl [H]; · iexact H
  iintro %f' H
  iexists f'; iexact H

/-- A memref held after another is held. -/
theorem Holds.skip {c : Dev nD} {P R : sProp 𝕄} {s : Shape} {e : EltTy} {m : Memref sig .tc .vmem s e}
    (h : Holds c R m) : Holds c iprop(P ∗ R) m := by
  unfold Holds at h ⊢
  iintro ⟨HP, HR⟩
  have h' := h
  ihave HR := h' $$ HR
  icases HR with ⟨%f, H, HR⟩
  iexists f
  isplitl [H]; · iexact H
  iintro %f' H
  isplitl [HP]; · iexact HP
  iapply HR; iexact H

theorem Keeps.ret {c : Dev nD} {E : Set ℕ} {R : sProp 𝕄} {α : Type} (a : α) :
    Keeps c E R (pure a : Prog (TpuEff nD τ sig (Elt F) Λ₀ .tc) α) :=
  le_wp_ret _ _ _ a fun _ => R

theorem Keeps.bind {c : Dev nD} {E : Set ℕ} {R : sProp 𝕄} {α β : Type}
    {p : Prog (TpuEff nD τ sig (Elt F) Λ₀ .tc) α} {k : α → Prog (TpuEff nD τ sig (Elt F) Λ₀ .tc) β}
    (hp : Keeps c E R p) (hk : ∀ a, Keeps c E R (k a)) : Keeps c E R (p >>= k) := by
  unfold Keeps; rw [wp_bind]; exact hp.trans (wp_mono _ _ _ hk)

theorem Keeps.load {c : Dev nD} {E : Set ℕ} {R : sProp 𝕄} {s : Shape} {e : EltTy} {m : Memref sig .tc .vmem s e}
    {r : LoadRect s} {hl : m.view.LoadsAt r} (h : Reads c R m) :
    Keeps (F := F) c E R (Prog.lift (.load m r hl)) := by
  refine h.trans ?_
  iintro ⟨%f, H, HR⟩
  iapply (wp_load Variants.none (c : Thread nD τ) none E (View.setOn_subset_set _ _)) $$ H
  iintro H
  iapply (le_wp_ret)
  iapply HR; iexact H

theorem Keeps.store {c : Dev nD} {E : Set ℕ} {R : sProp 𝕄} {s : Shape} {e : EltTy} {m : Memref sig .tc .vmem s e}
    {r : Rect s} {w : r.shape.Idx → Elt F e} {Mk : Finset r.shape.Idx} {hx : (m.access r).Stores Mk}
    {hm : Mk = Finset.univ ∨ ∀ a, r.stride a = 1} (h : Holds c R m) :
    Keeps (F := F) c E R (Prog.lift (.store m r w Mk hx hm)) := by
  refine h.trans ?_
  iintro ⟨%f, H, HR⟩
  have hw := wp_store (defs := defs₀ (F := F)) (Ix := Unit) (Name := ℕ) (U := UR sig nD τ) (Lvl := ℕ) (Γ := .empty) Variants.none
    (c : Thread nD τ) none E (Q := fun _ => R) (m := m) (r := r) (w := w) (Mk := Mk) (hx := hx) (hm := hm) (k := Prog.ret)
    (S := m.view.set) (f := f) ((View.setOn_subset_set _ _).trans (View.set_slice_subset _ _))
  iapply hw $$ H
  iintro H
  iapply (le_wp_ret)
  iapply HR; iexact H

theorem Keeps.for {c : Dev nD} {E : Set ℕ} {R : sProp 𝕄} {σ : Type} {l : Scf.Loop 32} {hok : l.OK} {init : σ}
    {body : Fin l.trips → σ → Prog (TpuEff nD τ sig (Elt F) Λ₀ .tc) σ} (h : ∀ k acc, Keeps c E R (body k acc)) :
    Keeps c E R (Scf.Loop.for l hok init body) := by
  refine BIBase.Entails.trans ?_ (Scf.wp_for _ _ _ l.lb l.ub l.st hok init body (fun _ _ => R) h)
  iintro H
  isplitl [H]; · iexact H
  iintro %acc H; iexact H

/-! ## The body keeps its memrefs -/

section Body

variable (i : grid0.Coords)
  (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)
  (c : Dev nD) (x0 : Vec F S1x512x1024 .bf16)

/-- Memref `M` held at some contents. -/
abbrev any {s : Shape} {e : EltTy} (M : Memref sig .tc .vmem s e) : sProp 𝕄 :=
  iprop(∃ f, M.view.loc (c : Thread nD τ) ↦[M.view.set]{fullShare} f)

/-- The nine memrefs of the body: the input block at `x0`, the others at some contents. -/
def mems : sProp 𝕄 :=
  iprop(owns (c : Thread nD τ) arg2 fullShare x0 ∗ any c arg3 ∗ any c arg4 ∗ any c arg5 ∗ any c arg6 ∗ any c arg7
    ∗ any c arg8 ∗ any c arg9 ∗ any c arg10)

theorem reads2 : Reads (F := F) c (mems (F := F) arg2 arg3 arg4 arg5 arg6 arg7 arg8 arg9 arg10 c x0) arg2 := by
  unfold Reads mems owns
  iintro ⟨⟨%f, %hf, H2⟩, HR⟩
  iexists f
  isplitl [H2]; · iexact H2
  iintro H2
  isplitl [H2]
  · iexists f; isplitr; · ipureintro; exact hf
    iexact H2
  iexact HR

theorem holds3 : Holds (F := F) c (mems (F := F) arg2 arg3 arg4 arg5 arg6 arg7 arg8 arg9 arg10 c x0) arg3 :=
  (Holds.head).skip

theorem holds4 : Holds (F := F) c (mems (F := F) arg2 arg3 arg4 arg5 arg6 arg7 arg8 arg9 arg10 c x0) arg4 :=
  (Holds.head).skip.skip

theorem holds5 : Holds (F := F) c (mems (F := F) arg2 arg3 arg4 arg5 arg6 arg7 arg8 arg9 arg10 c x0) arg5 :=
  (Holds.head).skip.skip.skip

theorem holds6 : Holds (F := F) c (mems (F := F) arg2 arg3 arg4 arg5 arg6 arg7 arg8 arg9 arg10 c x0) arg6 :=
  (Holds.head).skip.skip.skip.skip

theorem holds7 : Holds (F := F) c (mems (F := F) arg2 arg3 arg4 arg5 arg6 arg7 arg8 arg9 arg10 c x0) arg7 :=
  (Holds.head).skip.skip.skip.skip.skip

theorem holds8 : Holds (F := F) c (mems (F := F) arg2 arg3 arg4 arg5 arg6 arg7 arg8 arg9 arg10 c x0) arg8 :=
  (Holds.head).skip.skip.skip.skip.skip.skip

theorem holds9 : Holds (F := F) c (mems (F := F) arg2 arg3 arg4 arg5 arg6 arg7 arg8 arg9 arg10 c x0) arg9 :=
  (Holds.head).skip.skip.skip.skip.skip.skip.skip

theorem holds10 : Holds (F := F) c (mems (F := F) arg2 arg3 arg4 arg5 arg6 arg7 arg8 arg9 arg10 c x0) arg10 :=
  (Holds.last).skip.skip.skip.skip.skip.skip.skip.skip

set_option maxHeartbeats 4000000 in
/-- One trip of the outer loop keeps the nine memrefs. -/
theorem body_keeps (E : Set ℕ) (k : Fin k0_t1_loop.trips) (u : Unit) :
    Keeps (F := F) c E (mems (F := F) arg2 arg3 arg4 arg5 arg6 arg7 arg8 arg9 arg10 c x0) (k0_t1_body i arg2 harg2 arg3 harg3 arg4 harg4 arg5 harg5 arg6 harg6 arg7 harg7 arg8 harg8 arg9 harg9 arg10 harg10 k u) := by
  have h2 := reads2 (F := F) arg2 arg3 arg4 arg5 arg6 arg7 arg8 arg9 arg10 c x0
  have h3 := holds3 (F := F) arg2 arg3 arg4 arg5 arg6 arg7 arg8 arg9 arg10 c x0
  have h4 := holds4 (F := F) arg2 arg3 arg4 arg5 arg6 arg7 arg8 arg9 arg10 c x0
  have h5 := holds5 (F := F) arg2 arg3 arg4 arg5 arg6 arg7 arg8 arg9 arg10 c x0
  have h6 := holds6 (F := F) arg2 arg3 arg4 arg5 arg6 arg7 arg8 arg9 arg10 c x0
  have h7 := holds7 (F := F) arg2 arg3 arg4 arg5 arg6 arg7 arg8 arg9 arg10 c x0
  have h8 := holds8 (F := F) arg2 arg3 arg4 arg5 arg6 arg7 arg8 arg9 arg10 c x0
  have h9 := holds9 (F := F) arg2 arg3 arg4 arg5 arg6 arg7 arg8 arg9 arg10 c x0
  have h10 := holds10 (F := F) arg2 arg3 arg4 arg5 arg6 arg7 arg8 arg9 arg10 c x0
  generalize mems arg2 arg3 arg4 arg5 arg6 arg7 arg8 arg9 arg10 c x0 = R at *
  unfold k0_t1_body
  repeat' first
    | with_reducible exact Keeps.ret _
    | with_reducible refine Keeps.bind ?_ fun _ => ?_
    | with_reducible (refine Keeps.load ?_; first | exact h2 | exact Holds.reads (by assumption))
    | with_reducible (refine Keeps.store ?_; assumption)
    | with_reducible refine Keeps.for fun _ _ => ?_
    | split
    | refine Keeps.bind ?_ fun _ => ?_

end Body

end Cert.KernelIdeal.Hand

end
-- ==== Proof.IdealFrame.lean ====
/-
  The frame of the idealized kernel: the body's triple from `body_keeps`, the pipeline's proof data with the five
  outputs left unnamed, and the run.
-/
module

public import proofs.«01_k».proof.Proof.IdealKeeps
public import Idealize.ShloMosaic.Lib.Pipeline.FrameBody
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem any_of_owns (c : Dev nD) {s : Shape} {e : EltTy} (M : Memref sig .tc .vmem s e) :
    iprop(∃ d, owns (c : Thread nD τ) M fullShare d) ⊢ (any (F := F) c M : sProp 𝕄) := by
  unfold any owns
  iintro ⟨%d, %f, -, H⟩
  iexists f; iexact H

theorem owns_of_any (c : Dev nD) {s : Shape} {e : EltTy} (M : Memref sig .tc .vmem s e) :
    (any (F := F) c M : sProp 𝕄) ⊢ iprop(∃ d, owns (c : Thread nD τ) M fullShare d) := by
  unfold any owns
  iintro ⟨%f, H⟩
  iexists _, f
  isplitr; · ipureintro; rfl
  iexact H

/-- The body hands back the input block as it was and the other eight memrefs at some contents. -/
theorem body_run (c : Dev nD) (i : grid0.Coords) (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)
    (x0 : Vec F S1x512x1024 .bf16) :
    (iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) : sProp 𝕄)
      ⊢ wp frame (wpE (defs₀ (F := F)) Variants.none c none) Set.univ (cc0_hqq_fit i arg2 harg2 arg3 harg3 arg4 harg4 arg5 harg5 arg6 harg6 arg7 harg7 arg8 harg8 arg9 harg9 arg10 harg10)
          (fun _ => (iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) : sProp 𝕄)) := by
  have hk : Keeps (F := F) c Set.univ (mems arg2 arg3 arg4 arg5 arg6 arg7 arg8 arg9 arg10 c x0) (cc0_hqq_fit i arg2 harg2 arg3 harg3 arg4 harg4 arg5 harg5 arg6 harg6 arg7 harg7 arg8 harg8 arg9 harg9 arg10 harg10) := by
    rw [cc0_hqq_fit_eq_skeleton]
    unfold cc0_hqq_fit_skel
    exact Keeps.bind (Keeps.for fun k u => body_keeps i arg2 harg2 arg3 harg3 arg4 harg4 arg5 harg5 arg6 harg6 arg7 harg7 arg8 harg8 arg9 harg9 arg10 harg10 c x0 Set.univ k u) fun _ => Keeps.ret _
  unfold Keeps at hk
  refine BIBase.Entails.trans ?_ (hk.trans (wp_mono _ _ _ fun _ => ?_))
  · unfold mems
    iintro ⟨H2, H3, H4, H5, H6, H7, H8, H9, H10⟩
    isplitl [H2]; · iexact H2
    isplitl [H3]; · iapply (any_of_owns c _); iexact H3
    isplitl [H4]; · iapply (any_of_owns c _); iexact H4
    isplitl [H5]; · iapply (any_of_owns c _); iexact H5
    isplitl [H6]; · iapply (any_of_owns c _); iexact H6
    isplitl [H7]; · iapply (any_of_owns c _); iexact H7
    isplitl [H8]; · iapply (any_of_owns c _); iexact H8
    isplitl [H9]; · iapply (any_of_owns c _); iexact H9
    iapply (any_of_owns c _); iexact H10
  · unfold mems
    iintro ⟨H2, H3, H4, H5, H6, H7, H8, H9, H10⟩
    isplitl [H2]; · iexact H2
    isplitl [H3]; · iapply (owns_of_any c _); iexact H3
    isplitl [H4]; · iapply (owns_of_any c _); iexact H4
    isplitl [H5]; · iapply (owns_of_any c _); iexact H5
    isplitl [H6]; · iapply (owns_of_any c _); iexact H6
    isplitl [H7]; · iapply (owns_of_any c _); iexact H7
    isplitl [H8]; · iapply (owns_of_any c _); iexact H8
    isplitl [H9]; · iapply (owns_of_any c _); iexact H9
    iapply (owns_of_any c _); iexact H10

variable (m : (ℓ : Loc nD τ sig) → Buf (Elt F) ℓ) (ρ : Dev nD → PrngReg)

/-- Window `w`'s staging memref at point `t`, as the pipeline passes it. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x1024 .f32 := win0_5.stage (cfg0.slots t 5)
abbrev hs0_5 (t : Fin cfg0.N) : (ms0_5 t).IsWhole := hstage0_5 ((cfg0.slots t 5).cast nbuf0_5)
abbrev scM0_0 : Memref sig .tc .vmem S2x320x2x128 .bf16 := Memref.whole cc0_scratch0
abbrev scM0_1 : Memref sig .tc .vmem S2x64x8x128 .f32 := Memref.whole cc0_scratch1
abbrev scM0_2 : Memref sig .tc .vmem S2x64x128 .i32 := Memref.whole cc0_scratch2

/-- The invariant between grid points: the three scratch memrefs at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

/-- The five output windows, of whose contents nothing is said. -/
def forgets0 : Fin 6 → Bool := fun w => w.val != 0

/-- The pipeline's proof data: the input window's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0]
  rw [show (dats m 0 c).Φ t.castSucc = Pipeline.ΦA spec0 c from rfl, PhiA0_eq]
  have hrun := body_run (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) scM0_2 (Memref.isWhole_whole _)
    (iblk m c 0 t)
  iintro ⟨⟨⟨HS0, HS1, HS2⟩, Hg⟩, Ho, ⟨%d0, H0⟩, H1, H2, H3, H4, H5⟩
  iapply wp_wand_r
  isplitl [H0 H1 H2 H3 H4 H5 HS0 HS1 HS2]
  · iapply hrun
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro %_ ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the input array as it was, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any floats. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (Pipeline.RDat.FramePost.arr_in h.1 c 0 rfl).trans ((A_eq m c 0).trans (V_main_arg0 m c)), h.2⟩)
    (run_main_quiescent m ρ)

end Cert.KernelIdeal.Hand

end
-- ==== Proof.IdealProgram.lean ====
/-
  The body of the idealized kernel, written as short programs: the repeated loads, stores and fixed-point steps of the
  printed body as recursions over the rows they run through. That the printed body is this program is by unfolding.
-/
module

public import proofs.«01_k».proof.Proof.Gen.KernelIdeal.Skeleton

@[expose] public section

set_option maxRecDepth 65536

noncomputable section

namespace Cert.KernelIdeal.Hand

open Cert.KernelIdeal.Gen
open Idealize.ShloMosaic Idealize.SL.Sem

variable {F : FTy → Type} [FloatOps F] [Named F]

/-- A program of the kernel's core. -/
abbrev P (F : FTy → Type) (α : Type) := Prog (TpuEff nD τ sig (Elt F) Λ₀ .tc) α

/-! ## The arithmetic of one row -/

/-- A row of scaled weights plus the zero point. -/
def rowT (z : FVec F S8x128 .f32) (row : Vec F S1x1x8x128 .f32) : FVec F S8x128 .f32 :=
  addf (shapeCast S8x128 row shapeCasts_S1x1x8x128_S8x128) z

/-- Its code: rounded and clipped to `[0, 15]`. -/
def rowQ (z : FVec F S8x128 .f32) (row : Vec F S1x1x8x128 .f32) : FVec F S8x128 .f32 :=
  minimumf (broadcast S8x128 (Scalar.ofBits .f32 0x41700000#32))
    (maximumf (broadcast S8x128 (Scalar.ofBits .f32 0x00000000#32)) (roundeven (rowT z row)))

/-- What the code misses. -/
def rowD (z : FVec F S8x128 .f32) (row : Vec F S1x1x8x128 .f32) : FVec F S8x128 .f32 := subf (rowT z row) (rowQ z row)

/-- The base-two logarithm, as a quotient of natural ones. -/
def log2 (x : FVec F S8x128 .f32) : FVec F S8x128 .f32 :=
  divf (log x) (broadcast S8x128 (Scalar.log (Scalar.ofBits .f32 0x40000000#32)))

/-- A row's term of the sum that moves the zero point. -/
def rowG (z ic : FVec F S8x128 .f32) (row : Vec F S1x1x8x128 .f32) : FVec F S8x128 .f32 :=
  mulf (rowD z row)
    (minimumf (exp2 (mulf (log2 (absf (rowD z row)))
      (broadcast S8x128 (Named.named κ "neg_shrink_exp" 0xBFA66666#32)))) ic)

/-! ## The fit -/

section Refs

variable (arg9 : Memref sig .tc .vmem S2x64x8x128 .f32)

theorem inb_row (k r : ℕ) (hk : k < 2) (hr : r < 64) :
    ∀ a, (![k, r, 0, 0] : Fin 4 → ℕ) a + S1x1x8x128.size a ≤ S2x64x8x128.size a := by
  intro a; fin_cases a <;> simp [Shape.size] <;> omega

/-- Row `r` of tile `k`'s scaled weights. -/
def loadRow (k r : ℕ) (hk : k < 2) (hr : r < 64) : P F (Vec F S1x1x8x128 .f32) :=
  Prog.lift (.load arg9 (Rect.unit (s := S2x64x8x128) ![k, r, 0, 0] S1x1x8x128.size (inb_row k r hk hr)).toLoadRect
    (View.loadsAt_vmem h_S1x1x8x128))

/-- Four accumulators. -/
abbrev Acc (F : FTy → Type) := FVec F S8x128 .f32 × FVec F S8x128 .f32 × FVec F S8x128 .f32 × FVec F S8x128 .f32

/-- `n` more rounds of four rows each from round `j` on, added to the accumulators. -/
def sumRounds (k : ℕ) (hk : k < 2) (z ic : FVec F S8x128 .f32) :
    (n j : ℕ) → j + n = 16 → Acc F → P F (Acc F)
  | 0, _, _, a => pure a
  | n + 1, j, h, (a0, a1, a2, a3) => do
    let r0 ← loadRow arg9 k (4 * j) hk (by omega)
    let r1 ← loadRow arg9 k (4 * j + 1) hk (by omega)
    let r2 ← loadRow arg9 k (4 * j + 2) hk (by omega)
    let r3 ← loadRow arg9 k (4 * j + 3) hk (by omega)
    sumRounds k hk z ic n (j + 1) (by omega)
      (addf a0 (rowG z ic r0), addf a1 (rowG z ic r1), addf a2 (rowG z ic r2), addf a3 (rowG z ic r3))

/-- The sum over the 64 rows. -/
def sumRows (k : ℕ) (hk : k < 2) (z ic : FVec F S8x128 .f32) : P F (FVec F S8x128 .f32) := do
  let r0 ← loadRow arg9 k 0 hk (by omega)
  let r1 ← loadRow arg9 k 1 hk (by omega)
  let r2 ← loadRow arg9 k 2 hk (by omega)
  let r3 ← loadRow arg9 k 3 hk (by omega)
  let a ← sumRounds arg9 k hk z ic 15 1 rfl (rowG z ic r0, rowG z ic r1, rowG z ic r2, rowG z ic r3)
  pure (addf (addf a.1 a.2.1) (addf a.2.2.1 a.2.2.2))

/-- A tile's zero point, cut-off and step. -/
abbrev Fit (F : FTy → Type) := FVec F S8x128 .f32 × FVec F S8x128 .f32 × FVec F S8x128 .f32

/-- One iteration on one tile. -/
def fitStep (k : ℕ) (hk : k < 2) (s : Fit F) : P F (Fit F) := do
  let a ← sumRows arg9 k hk s.1 s.2.1
  pure (subf s.1 (mulf s.2.2 a), mulf s.2.1 (broadcast S8x128 (Scalar.ofBits .f32 0x3F8147AE#32)),
    mulf s.2.2 (broadcast S8x128 (Named.named κ "inv_growth" 0x3F7D7721#32)))

/-- One trip of the fit loop: two iterations on each of the two tiles. -/
def fitTrip (s : FVec F S8x128 .f32 × FVec F S8x128 .f32 × FVec F S8x128 .f32 × FVec F S8x128 .f32 × FVec F S8x128 .f32 × FVec F S8x128 .f32) :
    P F (FVec F S8x128 .f32 × FVec F S8x128 .f32 × FVec F S8x128 .f32 × FVec F S8x128 .f32 × FVec F S8x128 .f32 × FVec F S8x128 .f32) := do
  let a ← fitStep arg9 0 (by omega) (s.1, s.2.1, s.2.2.1)
  let b ← fitStep arg9 1 (by omega) (s.2.2.2.1, s.2.2.2.2.1, s.2.2.2.2.2)
  let a ← fitStep arg9 0 (by omega) a
  let b ← fitStep arg9 1 (by omega) b
  pure (a.1, a.2.1, a.2.2, b.1, b.2.1, b.2.2)

end Refs

/-! ## Filling the words and scaling the weights -/

section Fill

variable (arg2 : Memref sig .tc .vmem S1x512x1024 .bf16)
  (arg8 : Memref sig .tc .vmem S2x320x2x128 .bf16) (harg8 : arg8.IsWhole)
  (arg9 : Memref sig .tc .vmem S2x64x8x128 .f32)

/-- The first of the 128 columns tile `k` of trip `t` works on. -/
def lane (t : Fin k0_t1_loop.trips) (k : ℕ) : ℕ := k0_off1 t (BitVec.ofNat 32 k) 2

theorem lane_eq' : ∀ (t : Fin k0_t1_loop.trips) (k : Fin 2), lane t k = 256 * t.val + 128 * k.val := by decide +kernel

theorem lane_eq (t : Fin k0_t1_loop.trips) (k : ℕ) (hk : k < 2) : lane t k = 256 * t.val + 128 * k := lane_eq' t ⟨k, hk⟩

theorem lane_lt (t : Fin k0_t1_loop.trips) (k : ℕ) (hk : k < 2) : lane t k + 128 ≤ 1024 := by
  have ht : t.val < 4 := t.isLt
  rw [lane_eq t k hk]; omega

theorem inb_group (t : Fin k0_t1_loop.trips) (k g : ℕ) (hk : k < 2) (hg : g < 8) :
    ∀ a, (![0, 64 * g, lane t k] : Fin 3 → ℕ) a + S1x64x128.size a ≤ S1x512x1024.size a := by
  have := lane_lt t k hk
  intro a; fin_cases a <;> simp [Shape.size] <;> omega

theorem inb_words (k g : ℕ) (hk : k < 2) (hg : g < 8) :
    ∀ a, (![k, 40 * g, 0, 0] : Fin 4 → ℕ) a + S1x32x2x128.size a ≤ S2x320x2x128.size a := by
  intro a; fin_cases a <;> simp [Shape.size] <;> omega

theorem inb_pair (k i : ℕ) (hk : k < 2) (hi : i < 32) :
    ∀ a, S1x8x2x128.size a = 0 ∨ (![k, i, 0, 0] : Fin 4 → ℕ) a + (![1, 40, 1, 1] : Fin 4 → ℕ) a * (S1x8x2x128.size a - 1) < S2x320x2x128.size a := by
  intro a; right; fin_cases a <;> simp [Shape.size] <;> omega

/-- The rows of a group, as pairs of an even and an odd row. -/
def pairUp (x : Vec F S1x64x128 .bf16) : Vec F S1x32x2x128 .bf16 := k0_pay444 x

/-- The groups from `g` on, copied into tile `k`'s words. -/
def fillGroups (t : Fin k0_t1_loop.trips) (k : ℕ) (hk : k < 2) : (n g : ℕ) → g + n = 8 → P F PUnit
  | 0, _, _ => pure ⟨⟩
  | n + 1, g, h => do
    let x ← Prog.lift (.load arg2 (Rect.unit (s := S1x512x1024) ![0, 64 * g, lane t k] S1x64x128.size
      (inb_group t k g hk (by omega))).toLoadRect (View.loadsAt_vmem h_S1x64x128))
    let _ ← Prog.lift (.load arg8 (Rect.unit (s := S2x320x2x128) ![k, 40 * g, 0, 0] S1x32x2x128.size
      (inb_words k g hk (by omega))).toLoadRect (View.loadsAt_vmem h_S1x32x2x128))
    Prog.lift (.store arg8 (Rect.unit (s := S2x320x2x128) ![k, 40 * g, 0, 0] S1x32x2x128.size
      (inb_words k g hk (by omega))) (pairUp x) Finset.univ
      (View.stores_vmem h_S1x32x2x128 ((harg8.pairWhole rank2_S2x320x2x128).storeExact_slice rfl _
        (Rect.wholeRows_unit rank2_S2x320x2x128 rfl rfl) pairs_S2x320x2x128_bf16) (fun _ => rfl)) (.inl rfl))
    fillGroups t k hk n (g + 1) (by omega)

/-- Rows `2 i` and `2 i + 1` of the eight groups of tile `k`. -/
def loadPair (k i : ℕ) (hk : k < 2) (hi : i < 32) : P F (Vec F S1x8x2x128 .bf16) :=
  Prog.lift (.load arg8 (⟨![k, i, 0, 0], S1x8x2x128.size, ![1, 40, 1, 1], inb_pair k i hk hi⟩ : LoadRect S2x320x2x128)
    (View.loadsAt_vmem h_S1x8x2x128))

/-- The even row of a pair. -/
def evenRow (w : Vec F S1x8x2x128 .bf16) : FVec F S8x128 .f32 := k0_pay459 w
/-- The odd row of a pair. -/
def oddRow (w : Vec F S1x8x2x128 .bf16) : FVec F S8x128 .f32 := k0_pay460 w

/-- The running minimum and maximum, with those of one more pair. -/
def minMaxStep (w : Vec F S1x8x2x128 .bf16) (a : FVec F S8x128 .f32 × FVec F S8x128 .f32) :
    FVec F S8x128 .f32 × FVec F S8x128 .f32 :=
  (minimumf a.1 (minimumf (evenRow w) (oddRow w)), maximumf a.2 (maximumf (evenRow w) (oddRow w)))

/-- The running minimum and maximum, `n` more pairs from pair `i` on. -/
def minMaxFrom (k : ℕ) (hk : k < 2) :
    (n i : ℕ) → i + n ≤ 32 → FVec F S8x128 .f32 × FVec F S8x128 .f32 → P F (FVec F S8x128 .f32 × FVec F S8x128 .f32)
  | 0, _, _, a => pure a
  | n + 1, i, h, a => do
    let w ← loadPair arg8 k i hk (by omega)
    minMaxFrom k hk n (i + 1) (by omega) (minMaxStep w a)

/-- Each group's minimum and maximum over the first 31 pairs. -/
def minMax (k : ℕ) (hk : k < 2) : P F (FVec F S8x128 .f32 × FVec F S8x128 .f32) := do
  let w ← loadPair arg8 k 0 hk (by omega)
  minMaxFrom arg8 k hk 30 1 (by omega) (minimumf (evenRow w) (oddRow w), maximumf (evenRow w) (oddRow w))

/-- A row stored into tile `k`'s scaled weights. -/
def storeRow (k r : ℕ) (hk : k < 2) (hr : r < 64) (v : FVec F S8x128 .f32) : P F PUnit := do
  let _ ← Prog.lift (.load arg9 (Rect.unit (s := S2x64x8x128) ![k, r, 0, 0] S1x1x8x128.size (inb_row k r hk hr)).toLoadRect
    (View.loadsAt_vmem h_S1x1x8x128))
  Prog.lift (.store arg9 (Rect.unit (s := S2x64x8x128) ![k, r, 0, 0] S1x1x8x128.size (inb_row k r hk hr))
    (shapeCast S1x1x8x128 v shapeCasts_S8x128_S1x1x8x128) Finset.univ
    (View.stores_vmem_bits_univ h_S1x1x8x128 rfl) (.inl rfl))

/-- The rows from pair `i` on, divided by the scale. -/
def scaleRows (k : ℕ) (hk : k < 2) (inv : FVec F S8x128 .f32) : (n i : ℕ) → i + n = 32 → P F PUnit
  | 0, _, _ => pure ⟨⟩
  | n + 1, i, h => do
    let w ← loadPair arg8 k i hk (by omega)
    storeRow arg9 k (2 * i) hk (by omega) (mulf (evenRow w) inv)
    storeRow arg9 k (2 * i + 1) hk (by omega) (mulf (oddRow w) inv)
    scaleRows k hk inv n (i + 1) (by omega)

end Fill

/-! ## Scale, start and step of a tile -/

/-- The scale: a fifteenth of the range, or one where the range is zero. -/
def scaleOf (a : FVec F S8x128 .f32 × FVec F S8x128 .f32) : FVec F S8x128 .f32 :=
  select (cmpf .oeq a.2 a.1) (broadcast S8x128 (Scalar.ofBits .f32 0x3F800000#32))
    (divf (subf a.2 a.1) (broadcast S8x128 (Scalar.ofBits .f32 0x41700000#32)))

/-- Its reciprocal. -/
def invOf (s : FVec F S8x128 .f32) : FVec F S8x128 .f32 :=
  divf (broadcast S8x128 (Scalar.ofBits .f32 0x3F800000#32)) s

/-- The zero point the fit starts from. -/
def startOf (a : FVec F S8x128 .f32 × FVec F S8x128 .f32) : FVec F S8x128 .f32 :=
  mulf (subf (broadcast S8x128 (Scalar.ofBits .f32 0x00000000#32)) a.1) (invOf (scaleOf a))

/-- The clipped exponent of the scale. -/
def expOf (s : FVec F S8x128 .f32) : FVec F S8x128 .f32 :=
  minimumf (broadcast S8x128 (Scalar.ofBits .f32 0x42C80000#32))
    (maximumf (broadcast S8x128 (Scalar.ofBits .f32 0xC2C80000#32))
      (mulf (log2 s) (broadcast S8x128 (Named.named κ "shrink_exp" 0x3FA66666#32))))

/-- The cut-off the fit starts with. -/
def cutOf (s : FVec F S8x128 .f32) : FVec F S8x128 .f32 :=
  mulf (exp2 (expOf s)) (broadcast S8x128 (Scalar.ofBits .f32 0x41200000#32))

/-- The step the fit starts with, before its constant factor. -/
def preStepOf (s : FVec F S8x128 .f32) : FVec F S8x128 .f32 :=
  exp2 (subf (broadcast S8x128 (Scalar.ofBits .f32 0x00000000#32)) (expOf s))

/-- The constant factor of the step. -/
def stepInit : F .f32 := Named.named κ "step_init" 0x3ACCCCCD#32

/-- The step the fit starts with. -/
def stepOf (s : FVec F S8x128 .f32) : FVec F S8x128 .f32 := mulf (preStepOf s) (broadcast S8x128 stepInit)

/-! ## Finishing a tile -/

/-- A row's term of the error. -/
def rowE (z : FVec F S8x128 .f32) (row : Vec F S1x1x8x128 .f32) : FVec F S8x128 .f32 :=
  exp2 (mulf (log2 (absf (rowD z row))) (broadcast S8x128 (Scalar.ofBits .f32 0x3F333333#32)))

/-- Four codes as the four nibbles of a half word. -/
def nibbles (q0 q1 q2 q3 : FVec F S8x128 .f32) : IVec S8x128 32 :=
  fptosi 32 (addf (addf q0 (mulf (broadcast S8x128 (Scalar.ofBits .f32 0x41800000#32)) q1))
    (addf (mulf (broadcast S8x128 (Scalar.ofBits .f32 0x43800000#32)) q2)
      (mulf (broadcast S8x128 (Scalar.ofBits .f32 0x45800000#32)) q3)))

/-- The eight nibbles of a word, from its halves. -/
def wordOf (lo hi : IVec S8x128 32) : IVec S8x128 32 := ori lo (shli hi (broadcast S8x128 16#32))

/-- A tile's error from its accumulators. -/
def errOf (logS : FVec F S8x128 .f32) (a : Acc F) : FVec F S8x128 .f32 :=
  mulf (mulf (addf (addf a.1 a.2.1) (addf a.2.2.1 a.2.2.2))
    (exp2 (mulf logS (broadcast S8x128 (Scalar.ofBits .f32 0x3F333333#32)))))
    (broadcast S8x128 (Scalar.ofBits .f32 0x3C800000#32))

section Finish

variable (arg3 : Memref sig .tc .vmem S1x256x1024 .i8) (harg3 : arg3.IsWhole)
  (arg9 : Memref sig .tc .vmem S2x64x8x128 .f32) (arg10 : Memref sig .tc .vmem S2x64x128 .i32)

theorem inb_bytes (k j : ℕ) (hk : k < 2) (hj : j < 8) :
    ∀ a, S1x8x128.size a = 0 ∨ (![k, j, 0] : Fin 3 → ℕ) a + (![1, 8, 1] : Fin 3 → ℕ) a * (S1x8x128.size a - 1) < S2x64x128.size a := by
  intro a; right; fin_cases a <;> simp [Shape.size] <;> omega

theorem inb_all (k : ℕ) (hk : k < 2) :
    ∀ a, (![k, 0, 0] : Fin 3 → ℕ) a + S1x64x128.size a ≤ S2x64x128.size a := by
  intro a; fin_cases a <;> simp [Shape.size] <;> omega

theorem inb_stat (t : Fin k0_t1_loop.trips) (k : ℕ) (hk : k < 2) :
    ∀ a, (![0, 0, lane t k] : Fin 3 → ℕ) a + S1x8x128.size a ≤ S1x8x1024.size a := by
  have := lane_lt t k hk
  intro a; fin_cases a <;> simp [Shape.size] <;> omega

/-- Word `j` of the eight groups stored into tile `k`'s bytes. -/
def storeWord (k j : ℕ) (hk : k < 2) (hj : j < 8) (w : IVec S8x128 32) : P F PUnit := do
  let _ ← Prog.lift (.load arg10 (⟨![k, j, 0], S1x8x128.size, ![1, 8, 1], inb_bytes k j hk hj⟩ : LoadRect S2x64x128)
    (View.loadsAt_vmem h_S1x8x128))
  Prog.lift (.store arg10 ⟨(⟨![k, j, 0], S1x8x128.size, ![1, 8, 1], inb_bytes k j hk hj⟩ : LoadRect S2x64x128), spos_1_8_1⟩
    (shapeCast S1x8x128 w shapeCasts_S8x128_S1x8x128) Finset.univ (View.stores_vmem_bits_univ h_S1x8x128 rfl) (.inl rfl))

/-- The words from `j` on: eight rows each, their codes packed and their errors accumulated. -/
def packFrom (k : ℕ) (hk : k < 2) (z : FVec F S8x128 .f32) : (n j : ℕ) → j + n = 8 → Acc F → P F (Acc F)
  | 0, _, _, a => pure a
  | n + 1, j, h, a => do
    let r0 ← loadRow arg9 k (8 * j) hk (by omega)
    let r1 ← loadRow arg9 k (8 * j + 1) hk (by omega)
    let r2 ← loadRow arg9 k (8 * j + 2) hk (by omega)
    let r3 ← loadRow arg9 k (8 * j + 3) hk (by omega)
    let r4 ← loadRow arg9 k (8 * j + 4) hk (by omega)
    let r5 ← loadRow arg9 k (8 * j + 5) hk (by omega)
    let r6 ← loadRow arg9 k (8 * j + 6) hk (by omega)
    let r7 ← loadRow arg9 k (8 * j + 7) hk (by omega)
    storeWord arg10 k j hk (by omega) (wordOf (nibbles (rowQ z r0) (rowQ z r1) (rowQ z r2) (rowQ z r3))
      (nibbles (rowQ z r4) (rowQ z r5) (rowQ z r6) (rowQ z r7)))
    packFrom k hk z n (j + 1) (by omega)
      (addf (addf a.1 (rowE z r0)) (rowE z r4), addf (addf a.2.1 (rowE z r1)) (rowE z r5),
        addf (addf a.2.2.1 (rowE z r2)) (rowE z r6), addf (addf a.2.2.2 (rowE z r3)) (rowE z r7))

/-- All eight words. -/
def pack (k : ℕ) (hk : k < 2) (z : FVec F S8x128 .f32) : P F (Acc F) := do
  let r0 ← loadRow arg9 k 0 hk (by omega)
  let r1 ← loadRow arg9 k 1 hk (by omega)
  let r2 ← loadRow arg9 k 2 hk (by omega)
  let r3 ← loadRow arg9 k 3 hk (by omega)
  let r4 ← loadRow arg9 k 4 hk (by omega)
  let r5 ← loadRow arg9 k 5 hk (by omega)
  let r6 ← loadRow arg9 k 6 hk (by omega)
  let r7 ← loadRow arg9 k 7 hk (by omega)
  storeWord arg10 k 0 hk (by omega) (wordOf (nibbles (rowQ z r0) (rowQ z r1) (rowQ z r2) (rowQ z r3))
    (nibbles (rowQ z r4) (rowQ z r5) (rowQ z r6) (rowQ z r7)))
  packFrom arg9 arg10 k hk z 7 1 rfl
    (addf (rowE z r0) (rowE z r4), addf (rowE z r1) (rowE z r5),
      addf (rowE z r2) (rowE z r6), addf (rowE z r3) (rowE z r7))

/-- A tile's statistic stored into a block of results. -/
def storeStat (M : Memref sig .tc .vmem S1x8x1024 .f32) (t : Fin k0_t1_loop.trips) (k : ℕ) (hk : k < 2)
    (v : FVec F S8x128 .f32) : P F PUnit := do
  let _ ← Prog.lift (.load M (Rect.unit (s := S1x8x1024) ![0, 0, lane t k] S1x8x128.size (inb_stat t k hk)).toLoadRect
    (View.loadsAt_vmem h_S1x8x128))
  Prog.lift (.store M (Rect.unit (s := S1x8x1024) ![0, 0, lane t k] S1x8x128.size (inb_stat t k hk))
    (shapeCast S1x8x128 v shapeCasts_S8x128_S1x8x128) Finset.univ (View.stores_vmem_bits_univ h_S1x8x128 rfl) (.inl rfl))

/-- The bytes of a tile's words. -/
def bytesOf (x : Vec F S1x64x128 .i32) : IVec S1x256x128 8 := k0_pay1337 x

/-- Tile `k`'s codes stored, out of its words. -/
def storeCodes (t : Fin k0_t1_loop.trips) (k : ℕ) (hk : k < 2) : P F PUnit := do
  let x ← Prog.lift (.load arg10 (Rect.unit (s := S2x64x128) ![k, 0, 0] S1x64x128.size (inb_all k hk)).toLoadRect
    (View.loadsAt_vmem h_S1x64x128))
  let _ ← Prog.lift (.load arg3 (Rect.unit (s := S1x256x1024) (k0_off10 t (BitVec.ofNat 32 k)) S1x256x128.size
    (k0_off10_inb t ⟨k, hk⟩)).toLoadRect (View.loadsAt_vmem h_S1x256x128))
  Prog.lift (.store arg3 (Rect.unit (s := S1x256x1024) (k0_off10 t (BitVec.ofNat 32 k)) S1x256x128.size
    (k0_off10_inb t ⟨k, hk⟩)) (bytesOf x) Finset.univ
    (View.stores_vmem h_S1x256x128 (harg3.storeExact_slice rfl _ (k0_off10_packedi8 t ⟨k, hk⟩)) (fun _ => rfl)) (.inl rfl))

end Finish

/-! ## The whole body -/

section Body

variable (i : grid0.Coords)
  (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)

/-- A tile's words written, and its minima and maxima over the first 31 pairs. -/
def fillTile (t : Fin k0_t1_loop.trips) (k : ℕ) (hk : k < 2) : P F (FVec F S8x128 .f32 × FVec F S8x128 .f32) := do
  fillGroups arg2 arg8 harg8 t k hk 8 0 rfl
  minMax arg8 k hk

/-- A tile's scaled weights written, out of its minima and maxima. -/
def scaleTile (k : ℕ) (hk : k < 2) (a : FVec F S8x128 .f32 × FVec F S8x128 .f32) : P F PUnit :=
  scaleRows arg8 arg9 k hk (invOf (scaleOf a)) 32 0 rfl

/-- A tile's results stored, out of the logarithm of its scale, its first and its last zero point. -/
def finish (t : Fin k0_t1_loop.trips) (k : ℕ) (hk : k < 2) (logS start z : FVec F S8x128 .f32) : P F PUnit := do
  let e ← pack arg9 arg10 k hk z
  storeCodes arg3 harg3 arg10 t k hk
  storeStat arg6 t k hk (errOf logS e)
  storeStat arg5 t k hk z
  storeStat arg7 t k hk (subf z start)

/-- What follows the preparation of both tiles. -/
def fitTiles (t : Fin k0_t1_loop.trips) (v : BitVec 32) (start0 log0 cut0 step0 scale1 start1 log1 cut1 pre1 : FVec F S8x128 .f32) (c : F .f32) : P F PUnit := do
  storeStat arg4 t 1 (by omega) scale1
  let f ← Scf.Loop.for k0_t2_loop k0_t2_ok (start0, cut0, step0, start1, cut1, mulf pre1 (broadcast S8x128 c))
    (k0_t2_body i arg2 harg2 arg3 harg3 arg4 harg4 arg5 harg5 arg6 harg6 arg7 harg7 arg8 harg8 arg9 harg9 arg10 harg10 t start0 cut0 step0 v scale1 start1 cut1 pre1 c)
  finish arg3 harg3 arg5 arg6 arg7 arg9 arg10 t 0 (by omega) log0 start0 f.1
  finish arg3 harg3 arg5 arg6 arg7 arg9 arg10 t 1 (by omega) log1 start1 f.2.2.2.1

end Body

end Cert.KernelIdeal.Hand
-- ==== Proof.IdealTriple.lean ====
/-
  Runs of the idealized kernel's programs over the contents of its nine memrefs. `Runs σ p Q`: from memrefs that hold `σ`
  the program ends with a result and contents that meet `Q`. One rule per kind of statement.
-/
module

public import proofs.«01_k».proof.Proof.IdealProgram
public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The contents of the nine memrefs. -/
structure Mem where
  x : Vec Ideal S1x512x1024 .bf16
  codes : Vec Ideal S1x256x1024 .i8
  s : Vec Ideal S1x8x1024 .f32
  z : Vec Ideal S1x8x1024 .f32
  err : Vec Ideal S1x8x1024 .f32
  shift : Vec Ideal S1x8x1024 .f32
  w : Vec Ideal S2x320x2x128 .bf16
  u : Vec Ideal S2x64x8x128 .f32
  b : Vec Ideal S2x64x128 .i32

/-- The nine memrefs. -/
structure Refs where
  arg2 : Memref sig .tc .vmem S1x512x1024 .bf16
  arg3 : Memref sig .tc .vmem S1x256x1024 .i8
  arg4 : Memref sig .tc .vmem S1x8x1024 .f32
  arg5 : Memref sig .tc .vmem S1x8x1024 .f32
  arg6 : Memref sig .tc .vmem S1x8x1024 .f32
  arg7 : Memref sig .tc .vmem S1x8x1024 .f32
  arg8 : Memref sig .tc .vmem S2x320x2x128 .bf16
  arg9 : Memref sig .tc .vmem S2x64x8x128 .f32
  arg10 : Memref sig .tc .vmem S2x64x128 .i32

/-- Contents `X` with `v` written at a rectangle. -/
def put {s : Shape} {e : EltTy} (r : Rect s) (v : r.shape.Idx → Elt Ideal e) (X : s.Idx → Elt Ideal e) : s.Idx → Elt Ideal e :=
  open Classical in fun y => if h : ∃ j, r.emb j = y then v h.choose else X y

theorem put_emb {s : Shape} {e : EltTy} (r : Rect s) (v : r.shape.Idx → Elt Ideal e) (X : s.Idx → Elt Ideal e) (j : r.shape.Idx) :
    put r v X (r.emb j) = v j := by
  have h : ∃ j', r.emb j' = r.emb j := ⟨j, rfl⟩
  unfold put
  rw [dif_pos h, r.emb.injective h.choose_spec]

theorem put_other {s : Shape} {e : EltTy} (r : Rect s) (v : r.shape.Idx → Elt Ideal e) (X : s.Idx → Elt Ideal e) (y : s.Idx)
    (h : ∀ j, r.emb j ≠ y) : put r v X y = X y := by
  unfold put
  rw [dif_neg (by rintro ⟨j, hj⟩; exact h j hj)]

theorem read_write_put {s : Shape} {e : EltTy} {sp : Space} (M : Memref sig .tc sp s e) (r : Rect s)
    (f : M.view.ty.Contents (Elt Ideal)) (v : r.shape.Idx → Elt Ideal e) :
    M.view.read (Elt Ideal) ((M.access r).write (Elt Ideal) f v Finset.univ) = put r v (M.view.read (Elt Ideal) f) := by
  funext y
  by_cases h : ∃ j, r.emb j = y
  · obtain ⟨j, rfl⟩ := h
    rw [put_emb]; exact View.read_slice_write_emb r f v (Finset.mem_univ j)
  · have h' : ∀ j, r.emb j ≠ y := fun j hj => h ⟨j, hj⟩
    rw [put_other _ _ _ _ h']
    refine View.read_slice_write_of_not_mem r f v Finset.univ fun hm => ?_
    obtain ⟨j, -, hj⟩ := Finset.mem_map.mp hm
    exact h' j hj

section

variable (R : Refs) (c : Dev nD)

/-- The nine memrefs held at `σ`. -/
def own (σ : Mem) : sProp 𝕄 :=
  iprop(owns (c : Thread nD τ) R.arg2 fullShare σ.x ∗ owns (c : Thread nD τ) R.arg3 fullShare σ.codes
    ∗ owns (c : Thread nD τ) R.arg4 fullShare σ.s ∗ owns (c : Thread nD τ) R.arg5 fullShare σ.z
    ∗ owns (c : Thread nD τ) R.arg6 fullShare σ.err ∗ owns (c : Thread nD τ) R.arg7 fullShare σ.shift
    ∗ owns (c : Thread nD τ) R.arg8 fullShare σ.w ∗ owns (c : Thread nD τ) R.arg9 fullShare σ.u
    ∗ owns (c : Thread nD τ) R.arg10 fullShare σ.b)

/-- From contents `σ` the program ends with a result and contents that meet `Q`. -/
def Runs (σ : Mem) {α : Type} (p : P Ideal α) (Q : α → Mem → Prop) : Prop :=
  own R c σ ⊢ wp frame (wpE (defs₀ (F := Ideal)) Variants.none (c : Thread nD τ) none) Set.univ p
    (fun a => iprop(∃ σ', ⌜Q a σ'⌝ ∗ own R c σ'))

/-- One of the nine memrefs, with how its contents are read off and replaced. -/
structure Slot {s : Shape} {e : EltTy} (M : Memref sig .tc .vmem s e) where
  get : Mem → Vec Ideal s e
  set : Mem → Vec Ideal s e → Mem
  keep : ∀ σ, set σ (get σ) = σ
  split : ∀ σ, own R c σ ⊢ iprop(owns (c : Thread nD τ) M fullShare (get σ)
    ∗ (∀ X, owns (c : Thread nD τ) M fullShare X -∗ own R c (set σ X)))

variable {R c}

theorem Runs.mono {σ : Mem} {α : Type} {p : P Ideal α} {Q Q' : α → Mem → Prop} (h : Runs R c σ p Q)
    (hq : ∀ a σ', Q a σ' → Q' a σ') : Runs R c σ p Q' := by
  refine BIBase.Entails.trans h (wp_mono _ _ _ fun a => ?_)
  iintro ⟨%σ', %hQ, H⟩
  iexists σ'
  isplitr; · ipureintro; exact hq _ _ hQ
  iexact H

theorem Runs.ret {σ : Mem} {α : Type} {a : α} {Q : α → Mem → Prop} (h : Q a σ) :
    Runs R c σ (pure a : P Ideal α) Q := by
  refine BIBase.Entails.trans ?_ (le_wp_ret _ _ _ a _)
  iintro H
  iexists σ
  isplitr; · ipureintro; exact h
  iexact H

theorem Runs.bind {σ : Mem} {α β : Type} {p : P Ideal α} {k : α → P Ideal β} {Q : α → Mem → Prop} {Q' : β → Mem → Prop}
    (hp : Runs R c σ p Q) (hk : ∀ a σ', Q a σ' → Runs R c σ' (k a) Q') : Runs R c σ (p >>= k) Q' := by
  unfold Runs at hp ⊢
  rw [wp_bind]
  refine hp.trans (wp_mono _ _ _ fun a => ?_)
  iintro ⟨%σ', %hQ, H⟩
  have hk' := hk a σ' hQ
  unfold Runs at hk'
  iapply hk'
  iexact H

theorem Runs.load {σ : Mem} {s : Shape} {e : EltTy} {M : Memref sig .tc .vmem s e} (L : Slot R c M) {r : LoadRect s}
    {hl : M.view.LoadsAt r} {Q : (r.shape.Idx → Elt Ideal e) → Mem → Prop} (h : Q (fun j => L.get σ (r.idx j)) σ) :
    Runs R c σ (Prog.lift (.load M r hl)) Q := by
  refine (L.split σ).trans ?_
  unfold owns
  iintro ⟨⟨%f, %hf, H⟩, HR⟩
  iapply (wp_load Variants.none (c : Thread nD τ) none Set.univ (View.setOn_subset_set _ _)) $$ H
  iintro H
  iapply (le_wp_ret)
  iexists σ
  isplitr
  · ipureintro
    rw [show M.view.readAt (Elt Ideal) r f = (fun j => L.get σ (r.idx j)) from by rw [← hf]; rfl]
    exact h
  have hb : own R c (L.set σ (L.get σ)) ⊢ own R c σ := by rw [L.keep]
  iapply hb
  iapply HR
  iexists f
  isplitr; · ipureintro; exact hf
  iexact H

theorem Runs.store {σ : Mem} {s : Shape} {e : EltTy} {M : Memref sig .tc .vmem s e} (L : Slot R c M) {r : Rect s}
    {w : r.shape.Idx → Elt Ideal e} {hx : (M.access r).Stores Finset.univ}
    {hm : (Finset.univ : Finset r.shape.Idx) = Finset.univ ∨ ∀ a, r.stride a = 1} {Q : PUnit → Mem → Prop}
    (h : Q ⟨⟩ (L.set σ (put r w (L.get σ)))) :
    Runs R c σ (Prog.lift (.store M r w Finset.univ hx hm)) Q := by
  refine (L.split σ).trans ?_
  unfold owns
  iintro ⟨⟨%f, %hf, H⟩, HR⟩
  have hw := wp_store (defs := defs₀ (F := Ideal)) (Ix := Unit) (Name := ℕ) (U := UR sig nD τ) (Lvl := ℕ) (Γ := .empty) Variants.none
    (c : Thread nD τ) none Set.univ (Q := fun a => iprop(∃ σ', ⌜Q a σ'⌝ ∗ own R c σ')) (m := M) (r := r) (w := w) (Mk := Finset.univ)
    (hx := hx) (hm := hm) (k := Prog.ret)
    (S := M.view.set) (f := f) ((View.setOn_subset_set _ _).trans (View.set_slice_subset _ _))
  iapply hw $$ H
  iintro H
  iapply (le_wp_ret)
  iexists (L.set σ (put r w (L.get σ)))
  isplitr; · ipureintro; exact h
  iapply HR
  iexists ((M.access r).write (Elt Ideal) f w Finset.univ)
  isplitr
  · ipureintro; rw [read_write_put, hf]
  iexact H

theorem Runs.for {σ : Mem} {α : Type} {l : Scf.Loop 32} {hok : l.OK} {init : α} {body : Fin l.trips → α → P Ideal α}
    (I : ℕ → α → Mem → Prop) (h0 : I 0 init σ)
    (h : ∀ (k : Fin l.trips) a σ', I k.val a σ' → Runs R c σ' (body k a) (I (k.val + 1))) :
    Runs R c σ (Scf.Loop.for l hok init body) (I l.trips) := by
  refine BIBase.Entails.trans ?_ (Scf.wp_for _ _ _ l.lb l.ub l.st hok init body
    (fun n a => iprop(∃ σ', ⌜I n a σ'⌝ ∗ own R c σ')) fun k acc => ?_)
  · iintro H
    isplitl [H]
    · iexists σ
      isplitr; · ipureintro; exact h0
      iexact H
    iintro %acc H; iexact H
  · iintro ⟨%σ', %hI, H⟩
    have h' := h k acc σ' hI
    unfold Runs at h'
    iapply h'
    iexact H

variable (R c)

def slot2 : Slot R c R.arg2 where
  get σ := σ.x
  set σ X := { σ with x := X }
  keep _ := rfl
  split σ := by
    unfold own
    iintro ⟨H2, H3, H4, H5, H6, H7, H8, H9, H10⟩
    isplitl [H2]; · iexact H2
    iintro %X H2
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot3 : Slot R c R.arg3 where
  get σ := σ.codes
  set σ X := { σ with codes := X }
  keep _ := rfl
  split σ := by
    unfold own
    iintro ⟨H2, H3, H4, H5, H6, H7, H8, H9, H10⟩
    isplitl [H3]; · iexact H3
    iintro %X H3
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot4 : Slot R c R.arg4 where
  get σ := σ.s
  set σ X := { σ with s := X }
  keep _ := rfl
  split σ := by
    unfold own
    iintro ⟨H2, H3, H4, H5, H6, H7, H8, H9, H10⟩
    isplitl [H4]; · iexact H4
    iintro %X H4
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot5 : Slot R c R.arg5 where
  get σ := σ.z
  set σ X := { σ with z := X }
  keep _ := rfl
  split σ := by
    unfold own
    iintro ⟨H2, H3, H4, H5, H6, H7, H8, H9, H10⟩
    isplitl [H5]; · iexact H5
    iintro %X H5
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot6 : Slot R c R.arg6 where
  get σ := σ.err
  set σ X := { σ with err := X }
  keep _ := rfl
  split σ := by
    unfold own
    iintro ⟨H2, H3, H4, H5, H6, H7, H8, H9, H10⟩
    isplitl [H6]; · iexact H6
    iintro %X H6
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot7 : Slot R c R.arg7 where
  get σ := σ.shift
  set σ X := { σ with shift := X }
  keep _ := rfl
  split σ := by
    unfold own
    iintro ⟨H2, H3, H4, H5, H6, H7, H8, H9, H10⟩
    isplitl [H7]; · iexact H7
    iintro %X H7
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot8 : Slot R c R.arg8 where
  get σ := σ.w
  set σ X := { σ with w := X }
  keep _ := rfl
  split σ := by
    unfold own
    iintro ⟨H2, H3, H4, H5, H6, H7, H8, H9, H10⟩
    isplitl [H8]; · iexact H8
    iintro %X H8
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot9 : Slot R c R.arg9 where
  get σ := σ.u
  set σ X := { σ with u := X }
  keep _ := rfl
  split σ := by
    unfold own
    iintro ⟨H2, H3, H4, H5, H6, H7, H8, H9, H10⟩
    isplitl [H9]; · iexact H9
    iintro %X H9
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

def slot10 : Slot R c R.arg10 where
  get σ := σ.b
  set σ X := { σ with b := X }
  keep _ := rfl
  split σ := by
    unfold own
    iintro ⟨H2, H3, H4, H5, H6, H7, H8, H9, H10⟩
    isplitl [H10]; · iexact H10
    iintro %X H10
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end

end Cert.KernelIdeal.Hand

end
-- ==== Proof.IdealScalar.lean ====
/-
  What the kernel computes for one group of one column, as functions of the group's 64 weights; the vectors of the
  program hold these values, one group and column at each index.
-/
module

public import proofs.«01_k».proof.Proof.IdealProgram

@[expose] public section

noncomputable section

namespace Cert.KernelIdeal.Hand

open Cert.KernelIdeal.Gen
open Idealize.ShloMosaic

/-- The number a pattern of 32 bits stands for. -/
abbrev cst (b : BitVec 32) : EReal := Scalar.ofBits (F := Ideal) .f32 b

def sT (z u : EReal) : EReal := u + z
/-- The code of a scaled weight. -/
def sQ (z u : EReal) : EReal :=
  min (cst 0x41700000#32) (max (cst 0x00000000#32) (Ideal.liftRound Ideal.roundHalfEven (sT z u)))
/-- What the code misses. -/
def sD (z u : EReal) : EReal := sT z u - sQ z u
def sLog2 (x : EReal) : EReal := Ideal.div (Ideal.log x) (Ideal.log (cst 0x40000000#32))
def sAbs (x : EReal) : EReal := max x (-x)
/-- A weight's term of the sum that moves the zero point. -/
def sG (z ic u : EReal) : EReal :=
  sD z u * min (Ideal.exp2 (sLog2 (sAbs (sD z u)) * Named.named (F := Ideal) (φ := .f32) κ "neg_shrink_exp" 0xBFA66666#32)) ic
/-- A weight's term of the error. -/
def sE (z u : EReal) : EReal := Ideal.exp2 (sLog2 (sAbs (sD z u)) * cst 0x3F333333#32)

/-- One iteration: zero point, cut-off, step. -/
def sStep (U : ℕ → EReal) (a : EReal × EReal × EReal) : EReal × EReal × EReal :=
  (a.1 - a.2.2 * ∑ r ∈ Finset.range 64, sG a.1 a.2.1 (U r), a.2.1 * cst 0x3F8147AE#32,
    a.2.2 * Named.named (F := Ideal) (φ := .f32) κ "inv_growth" 0x3F7D7721#32)

/-- `n` iterations. -/
def sIter (U : ℕ → EReal) (a : EReal × EReal × EReal) (n : ℕ) : EReal × EReal × EReal := (sStep U)^[n] a

/-- The scale. -/
def sScale (mn mx : EReal) : EReal :=
  if mx = mn then cst 0x3F800000#32 else Ideal.div (mx - mn) (cst 0x41700000#32)
def sInv (s : EReal) : EReal := Ideal.div (cst 0x3F800000#32) s
def sStart (mn mx : EReal) : EReal := (cst 0x00000000#32 - mn) * sInv (sScale mn mx)
def sExp (s : EReal) : EReal :=
  min (cst 0x42C80000#32) (max (cst 0xC2C80000#32) (sLog2 s * Named.named (F := Ideal) (φ := .f32) κ "shrink_exp" 0x3FA66666#32))
def sCut (s : EReal) : EReal := Ideal.exp2 (sExp s) * cst 0x41200000#32
def sStp (s : EReal) : EReal :=
  Ideal.exp2 (cst 0x00000000#32 - sExp s) * Named.named (F := Ideal) (φ := .f32) κ "step_init" 0x3ACCCCCD#32

/-- Smallest and largest of a group's weights. -/
def gMin (w : ℕ → EReal) : EReal := (Finset.range 64).inf w
def gMax (w : ℕ → EReal) : EReal := (Finset.range 64).sup w
def gS (w : ℕ → EReal) : EReal := sScale (gMin w) (gMax w)
def gZ0 (w : ℕ → EReal) : EReal := sStart (gMin w) (gMax w)
/-- The scaled weights. -/
def gU (w : ℕ → EReal) (r : ℕ) : EReal := w r * sInv (gS w)
/-- The fitted zero point. -/
def gZ (w : ℕ → EReal) : EReal := (sIter (gU w) (gZ0 w, sCut (gS w), sStp (gS w)) 20).1
def gShift (w : ℕ → EReal) : EReal := gZ w - gZ0 w
def gErr (w : ℕ → EReal) : EReal :=
  ((∑ r ∈ Finset.range 64, sE (gZ w) (gU w r)) * Ideal.exp2 (sLog2 (gS w) * cst 0x3F333333#32)) * cst 0x3C800000#32
/-- Four codes as the nibbles of a half word, and two halves as a word. -/
def sNib (q0 q1 q2 q3 : EReal) : BitVec 32 :=
  Ideal.fptosi 32 ((q0 + cst 0x41800000#32 * q1) + (cst 0x43800000#32 * q2 + cst 0x45800000#32 * q3))
def sWord (z : EReal) (U : ℕ → EReal) (j : ℕ) : BitVec 32 :=
  Scalar.ori (sNib (sQ z (U (8 * j))) (sQ z (U (8 * j + 1))) (sQ z (U (8 * j + 2))) (sQ z (U (8 * j + 3))))
    (Scalar.shli (sNib (sQ z (U (8 * j + 4))) (sQ z (U (8 * j + 5))) (sQ z (U (8 * j + 6))) (sQ z (U (8 * j + 7)))) 16#32)
/-- Word `j` of a group's codes. -/
def gWord (w : ℕ → EReal) (j : ℕ) : BitVec 32 := sWord (gZ w) (gU w) j

/-! ## The vectors, at an index -/

variable (y : S8x128.Idx)

/-- A row in the shape of the other vectors. -/
def flat (row : Vec Ideal S1x1x8x128 .f32) : FVec Ideal S8x128 .f32 := shapeCast S8x128 row shapeCasts_S1x1x8x128_S8x128

theorem rowQ_apply (z : FVec Ideal S8x128 .f32) (row) : rowQ z row y = sQ (z y) (flat row y) := rfl
theorem rowG_apply (z ic : FVec Ideal S8x128 .f32) (row) : rowG z ic row y = sG (z y) (ic y) (flat row y) := rfl
theorem rowE_apply (z : FVec Ideal S8x128 .f32) (row) : rowE z row y = sE (z y) (flat row y) := rfl
theorem scaleOf_apply (a : FVec Ideal S8x128 .f32 × FVec Ideal S8x128 .f32) : scaleOf a y = sScale (a.1 y) (a.2 y) := by
  show Scalar.select (Ideal.cmp .oeq (a.2 y) (a.1 y)) _ _ = _
  unfold sScale Scalar.select Ideal.cmp
  by_cases h : a.2 y = a.1 y
  · simp [h]; rfl
  · simp [h]; rfl
theorem invOf_apply (s : FVec Ideal S8x128 .f32) : invOf s y = sInv (s y) := rfl
theorem startOf_apply (a : FVec Ideal S8x128 .f32 × FVec Ideal S8x128 .f32) : startOf a y = sStart (a.1 y) (a.2 y) := by
  show (cst 0 - a.1 y) * sInv (scaleOf a y) = _
  rw [scaleOf_apply]; rfl
theorem cutOf_apply (s : FVec Ideal S8x128 .f32) : cutOf s y = sCut (s y) := rfl
theorem stepOf_apply (s : FVec Ideal S8x128 .f32) : stepOf s y = sStp (s y) := rfl
theorem wordOf_apply (z : FVec Ideal S8x128 .f32) (r0 r1 r2 r3 r4 r5 r6 r7) :
    wordOf (nibbles (rowQ z r0) (rowQ z r1) (rowQ z r2) (rowQ z r3)) (nibbles (rowQ z r4) (rowQ z r5) (rowQ z r6) (rowQ z r7)) y
      = Scalar.ori (sNib (sQ (z y) (flat r0 y)) (sQ (z y) (flat r1 y)) (sQ (z y) (flat r2 y)) (sQ (z y) (flat r3 y)))
        (Scalar.shli (sNib (sQ (z y) (flat r4 y)) (sQ (z y) (flat r5 y)) (sQ (z y) (flat r6 y)) (sQ (z y) (flat r7 y))) 16#32) := rfl

end Cert.KernelIdeal.Hand

end
-- ==== Proof.IdealSpecFit.lean ====
/-
  What the programs that read the scaled weights leave: the sum over a tile's rows and the iterations of the fit.
-/
module

public import proofs.«01_k».proof.Proof.IdealTriple
public import proofs.«01_k».proof.Proof.IdealScalar
public import Idealize.ShloMosaic.Lib.ValueIdxCoords
public import Idealize.ShloMosaic.Lib.Pipeline.Value

@[expose] public section

set_option maxRecDepth 16384

noncomputable section

namespace Cert.KernelIdeal.Hand

open Cert.KernelIdeal.Gen
open Idealize.ShloMosaic Idealize.ShloMosaic.ValueIdx Idealize.SL.Sem

/-- The group and the column of an index of a tile's vectors. -/
def grp (y : S8x128.Idx) : Fin 8 := y 0
def col (y : S8x128.Idx) : Fin 128 := y 1

/-- Row `r` of tile `k`'s scaled weights, at a group and column. -/
def rowU (u : Vec Ideal S2x64x8x128 .f32) (k : Fin 2) (y : S8x128.Idx) (r : ℕ) : EReal :=
  if h : r < 64 then u (ix4 k ⟨r, h⟩ (grp y) (col y)) else 0

theorem idx_row (k r : ℕ) (hk : k < 2) (hr : r < 64) (y : S8x128.Idx) :
    (Rect.unit (s := S2x64x8x128) ![k, r, 0, 0] S1x1x8x128.size (inb_row k r hk hr)).toLoadRect.idx (ix4 0 0 (grp y) (col y))
      = ix4 ⟨k, hk⟩ ⟨r, hr⟩ (grp y) (col y) := by
  funext a
  apply Fin.ext
  match a with
  | ⟨0, _⟩ => show k + 1 * 0 = k; omega
  | ⟨1, _⟩ => show r + 1 * 0 = r; omega
  | ⟨2, _⟩ => show 0 + 1 * (grp y).val = (grp y).val; omega
  | ⟨3, _⟩ => show 0 + 1 * (col y).val = (col y).val; omega

theorem flat_apply (row : Vec Ideal S1x1x8x128 .f32) (y : S8x128.Idx) : flat row y = row (ix4 0 0 (grp y) (col y)) := by
  unfold flat
  refine shapeCast_apply _ _ _ _ ?_
  rw [Shape.rowMajor_val_four, Shape.rowMajor_val_two]
  show ((0 * 1 + 0) * 8 + (grp y).val) * 128 + (col y).val = (grp y).val * 128 + (col y).val
  omega

variable {R : Refs} {c : Dev nD} {σ : Mem}

theorem loadRow_spec (k r : ℕ) (hk : k < 2) (hr : r < 64) :
    Runs R c σ (loadRow R.arg9 k r hk hr) (fun a σ' => σ = σ' ∧ ∀ y, flat a y = rowU σ.u ⟨k, hk⟩ y r) := by
  unfold loadRow
  refine Runs.load (slot9 R c) ⟨rfl, fun y => ?_⟩
  rw [flat_apply, rowU, dif_pos hr]
  exact congrArg σ.u (idx_row k r hk hr y)

theorem sumRounds_spec (k : ℕ) (hk : k < 2) (z ic : FVec Ideal S8x128 .f32) :
    ∀ (n j : ℕ) (h : j + n = 16) (a : Acc Ideal),
      (∀ y, (a.1 y + a.2.1 y) + (a.2.2.1 y + a.2.2.2 y)
        = ∑ r ∈ Finset.range (4 * j), sG (z y) (ic y) (rowU σ.u ⟨k, hk⟩ y r)) →
      Runs R c σ (sumRounds R.arg9 k hk z ic n j h a) (fun a' σ' => σ = σ' ∧
        ∀ y, (a'.1 y + a'.2.1 y) + (a'.2.2.1 y + a'.2.2.2 y)
          = ∑ r ∈ Finset.range 64, sG (z y) (ic y) (rowU σ.u ⟨k, hk⟩ y r))
  | 0, j, h, a, ha => by
    obtain rfl : j = 16 := by omega
    exact Runs.ret ⟨rfl, ha⟩
  | n + 1, j, h, (a0, a1, a2, a3), ha => by
    unfold sumRounds
    refine (loadRow_spec k (4 * j) hk (by omega)).bind ?_
    rintro r0 _ ⟨rfl, h0⟩
    refine (loadRow_spec k (4 * j + 1) hk (by omega)).bind ?_
    rintro r1 _ ⟨rfl, h1⟩
    refine (loadRow_spec k (4 * j + 2) hk (by omega)).bind ?_
    rintro r2 _ ⟨rfl, h2⟩
    refine (loadRow_spec k (4 * j + 3) hk (by omega)).bind ?_
    rintro r3 _ ⟨rfl, h3⟩
    refine sumRounds_spec k hk z ic n (j + 1) (by omega) _ fun y => ?_
    show ((a0 y + rowG z ic r0 y) + (a1 y + rowG z ic r1 y)) + ((a2 y + rowG z ic r2 y) + (a3 y + rowG z ic r3 y)) = _
    rw [show 4 * (j + 1) = 4 * j + 3 + 1 by omega, Finset.sum_range_succ, Finset.sum_range_succ, Finset.sum_range_succ,
      Finset.sum_range_succ, ← ha y, rowG_apply, rowG_apply, rowG_apply, rowG_apply, h0, h1, h2, h3]
    dsimp only
    abel

theorem sumRows_spec (k : ℕ) (hk : k < 2) (z ic : FVec Ideal S8x128 .f32) :
    Runs R c σ (sumRows R.arg9 k hk z ic) (fun a σ' => σ = σ' ∧
      ∀ y, a y = ∑ r ∈ Finset.range 64, sG (z y) (ic y) (rowU σ.u ⟨k, hk⟩ y r)) := by
  unfold sumRows
  refine (loadRow_spec k 0 hk (by omega)).bind ?_
  rintro r0 _ ⟨rfl, h0⟩
  refine (loadRow_spec k 1 hk (by omega)).bind ?_
  rintro r1 _ ⟨rfl, h1⟩
  refine (loadRow_spec k 2 hk (by omega)).bind ?_
  rintro r2 _ ⟨rfl, h2⟩
  refine (loadRow_spec k 3 hk (by omega)).bind ?_
  rintro r3 _ ⟨rfl, h3⟩
  refine (sumRounds_spec k hk z ic 15 1 rfl _ fun y => ?_).bind ?_
  · show (rowG z ic r0 y + rowG z ic r1 y) + (rowG z ic r2 y + rowG z ic r3 y) = _
    rw [show 4 * 1 = 0 + 1 + 1 + 1 + 1 by omega, Finset.sum_range_succ, Finset.sum_range_succ, Finset.sum_range_succ,
      Finset.sum_range_succ, rowG_apply, rowG_apply, rowG_apply, rowG_apply, h0, h1, h2, h3]
    simp only [Finset.range_zero, Finset.sum_empty, zero_add]
    abel
  · rintro a _ ⟨rfl, h⟩
    exact Runs.ret ⟨rfl, fun y => h y⟩

/-- A tile's three fit vectors, at an index. -/
def fitAt (s : Fit Ideal) (y : S8x128.Idx) : EReal × EReal × EReal := (s.1 y, s.2.1 y, s.2.2 y)

theorem fitStep_spec (k : ℕ) (hk : k < 2) (s : Fit Ideal) :
    Runs R c σ (fitStep R.arg9 k hk s) (fun a σ' => σ = σ' ∧ ∀ y, fitAt a y = sStep (rowU σ.u ⟨k, hk⟩ y) (fitAt s y)) := by
  unfold fitStep
  refine (sumRows_spec k hk s.1 s.2.1).bind ?_
  rintro a _ ⟨rfl, h⟩
  refine Runs.ret ⟨rfl, fun y => ?_⟩
  show (s.1 y - s.2.2 y * a y, _, _) = _
  rw [h y]; rfl

theorem fitTrip_spec (s) :
    Runs R c σ (fitTrip R.arg9 s) (fun a σ' => σ = σ' ∧ ∀ y,
      fitAt (a.1, a.2.1, a.2.2.1) y = sStep (rowU σ.u 0 y) (sStep (rowU σ.u 0 y) (fitAt (s.1, s.2.1, s.2.2.1) y)) ∧
      fitAt (a.2.2.2.1, a.2.2.2.2.1, a.2.2.2.2.2) y
        = sStep (rowU σ.u 1 y) (sStep (rowU σ.u 1 y) (fitAt (s.2.2.2.1, s.2.2.2.2.1, s.2.2.2.2.2) y))) := by
  unfold fitTrip
  refine (fitStep_spec 0 (by omega) _).bind ?_
  rintro a _ ⟨rfl, ha⟩
  refine (fitStep_spec 1 (by omega) _).bind ?_
  rintro b _ ⟨rfl, hb⟩
  refine (fitStep_spec 0 (by omega) _).bind ?_
  rintro a' _ ⟨rfl, ha'⟩
  refine (fitStep_spec 1 (by omega) _).bind ?_
  rintro b' _ ⟨rfl, hb'⟩
  refine Runs.ret ⟨rfl, fun y => ⟨?_, ?_⟩⟩
  · exact (ha' y).trans (congrArg _ (ha y))
  · exact (hb' y).trans (congrArg _ (hb y))

end Cert.KernelIdeal.Hand

end
-- ==== Proof.IdealSpecFill.lean ====
/-
  What the programs that prepare a tile leave: its words, its minima and maxima, its scaled weights.
-/
module

public import proofs.«01_k».proof.Proof.IdealSpecFit

@[expose] public section

set_option maxRecDepth 16384

noncomputable section

namespace Cert.KernelIdeal.Hand

open Cert.KernelIdeal.Gen
open Idealize.ShloMosaic Idealize.ShloMosaic.ValueIdx Idealize.SL.Sem

/-- Row `r` of a group and column, out of the words of tile `k`. -/
def rowW (w : Vec Ideal S2x320x2x128 .bf16) (k : Fin 2) (y : S8x128.Idx) (r : ℕ) : EReal :=
  if h : r < 64 then w (ix4 k ⟨40 * (grp y).val + r / 2, by omega⟩ ⟨r % 2, by omega⟩ (col y)) else 0

/-- Row `r` of a group and column, out of the block of weights: column `l` of the block. -/
def colX (x : Vec Ideal S1x512x1024 .bf16) (g : Fin 8) (l : Fin 1024) (r : ℕ) : EReal :=
  if h : r < 64 then x (ix3 0 ⟨64 * g.val + r, by omega⟩ l) else 0

/-- The block's column under a tile's column. -/
def laneAt (t : Fin k0_t1_loop.trips) (k : Fin 2) (y : S8x128.Idx) : Fin 1024 :=
  ⟨lane t k.val + (col y).val, by have := lane_lt t k.val k.isLt; omega⟩

theorem pairUp_apply (x : Vec Ideal S1x64x128 .bf16) (i : Fin 32) (b : Fin 2) (l : Fin 128) :
    pairUp x (ix4 0 i b l) = x (ix3 0 ⟨2 * i.val + b.val, by omega⟩ l) := by
  have key (p : Fin 2) (j : S1x32x1x128.Idx) (h1 : (j 1).val = i.val) (h3 : (j 3).val = l.val) :
      shapeCast S1x32x1x128 (shapeCast S1x32x128 (rowsOfParity p S32x128
        (shapeCast S64x128 x shapeCasts_S1x64x128_S64x128) bitcasts_S64x128_w16_S32x128_w32) shapeCasts_S32x128_S1x32x128)
        shapeCasts_S1x32x128_S1x32x1x128 j = x (ix3 0 ⟨2 * i.val + p.val, by omega⟩ l) := by
    have h0 : (j 0).val = 0 := by have : (j 0).val < 1 := (j 0).isLt; omega
    have h2 : (j 2).val = 0 := by have : (j 2).val < 1 := (j 2).isLt; omega
    rw [shapeCast_apply _ _ j (ix3 0 i l) (by
        rw [Shape.rowMajor_val_three, Shape.rowMajor_val_four, h0, h1, h2, h3]
        show (0 * 32 + i.val) * 128 + l.val = ((0 * 32 + i.val) * 1 + 0) * 128 + l.val
        omega),
      shapeCast_apply _ _ (ix3 0 i l) (ix2 i l) (by
        rw [Shape.rowMajor_val_three, Shape.rowMajor_val_two]
        show i.val * 128 + l.val = (0 * 32 + i.val) * 128 + l.val
        omega)]
    unfold rowsOfParity
    refine shapeCast_apply _ _ _ _ ?_
    rw [Shape.rowMajor_val_three, Shape.rowMajor_val_two]
    show (0 * 64 + (2 * i.val + p.val)) * 128 + l.val = (2 * i.val + p.val) * 128 + l.val
    omega
  unfold pairUp k0_pay444 interleaveRows
  have hb : b = 0 ∨ b = 1 := by omega
  rcases hb with rfl | rfl
  · rw [if_pos (by rfl)]
    exact key 0 _ rfl rfl
  · rw [if_neg (by show ¬ (1 % 2 = 0); decide)]
    exact key 1 _ rfl rfl

theorem evenRow_apply (w : Vec Ideal S1x8x2x128 .bf16) (y : S8x128.Idx) : evenRow w y = w (ix4 0 (grp y) 0 (col y)) := by
  show shapeCast S8x128 (shapeCast S1x8x128 (rowsOfParity 0 S1x8x1x128 w bitcasts_S1x8x2x128_w16_S1x8x1x128_w32)
    shapeCasts_S1x8x1x128_S1x8x128) shapeCasts_S1x8x128_S8x128 y = _
  rw [shapeCast_apply _ _ y (ix3 0 (grp y) (col y)) (by
      rw [Shape.rowMajor_val_three, Shape.rowMajor_val_two]
      show (0 * 8 + (grp y).val) * 128 + (col y).val = (grp y).val * 128 + (col y).val
      omega),
    shapeCast_apply _ _ (ix3 0 (grp y) (col y)) (ix4 0 (grp y) 0 (col y)) (by
      rw [Shape.rowMajor_val_four, Shape.rowMajor_val_three]
      show ((0 * 8 + (grp y).val) * 1 + 0) * 128 + (col y).val = (0 * 8 + (grp y).val) * 128 + (col y).val
      omega)]
  unfold rowsOfParity
  refine congrArg w (funext fun a => Fin.ext ?_)
  match a with
  | ⟨0, _⟩ => rfl
  | ⟨1, _⟩ => rfl
  | ⟨2, _⟩ => rfl
  | ⟨3, _⟩ => rfl

theorem oddRow_apply (w : Vec Ideal S1x8x2x128 .bf16) (y : S8x128.Idx) : oddRow w y = w (ix4 0 (grp y) 1 (col y)) := by
  show shapeCast S8x128 (shapeCast S1x8x128 (rowsOfParity 1 S1x8x1x128 w bitcasts_S1x8x2x128_w16_S1x8x1x128_w32)
    shapeCasts_S1x8x1x128_S1x8x128) shapeCasts_S1x8x128_S8x128 y = _
  rw [shapeCast_apply _ _ y (ix3 0 (grp y) (col y)) (by
      rw [Shape.rowMajor_val_three, Shape.rowMajor_val_two]
      show (0 * 8 + (grp y).val) * 128 + (col y).val = (grp y).val * 128 + (col y).val
      omega),
    shapeCast_apply _ _ (ix3 0 (grp y) (col y)) (ix4 0 (grp y) 0 (col y)) (by
      rw [Shape.rowMajor_val_four, Shape.rowMajor_val_three]
      show ((0 * 8 + (grp y).val) * 1 + 0) * 128 + (col y).val = (0 * 8 + (grp y).val) * 128 + (col y).val
      omega)]
  unfold rowsOfParity
  refine congrArg w (funext fun a => Fin.ext ?_)
  match a with
  | ⟨0, _⟩ => rfl
  | ⟨1, _⟩ => rfl
  | ⟨2, _⟩ => rfl
  | ⟨3, _⟩ => rfl

variable {R : Refs} {c : Dev nD}

theorem idx_words (k g : ℕ) (hk : k < 2) (hg : g < 8) (i : Fin 32) (b : Fin 2) (l : Fin 128) :
    (Rect.unit (s := S2x320x2x128) ![k, 40 * g, 0, 0] S1x32x2x128.size (inb_words k g hk hg)).emb (ix4 0 i b l)
      = ix4 ⟨k, hk⟩ ⟨40 * g + i.val, by omega⟩ b l := by
  funext a
  apply Fin.ext
  match a with
  | ⟨0, _⟩ => show k + 1 * 0 = k; omega
  | ⟨1, _⟩ => show 40 * g + 1 * i.val = 40 * g + i.val; omega
  | ⟨2, _⟩ => show 0 + 1 * b.val = b.val; omega
  | ⟨3, _⟩ => show 0 + 1 * l.val = l.val; omega

theorem idx_group (t : Fin k0_t1_loop.trips) (k g : ℕ) (hk : k < 2) (hg : g < 8) (r : Fin 64) (y : S8x128.Idx) :
    (Rect.unit (s := S1x512x1024) ![0, 64 * g, lane t k] S1x64x128.size (inb_group t k g hk hg)).toLoadRect.idx (ix3 0 r (col y))
      = ix3 0 ⟨64 * g + r.val, by omega⟩ (laneAt t ⟨k, hk⟩ y) := by
  funext a
  apply Fin.ext
  match a with
  | ⟨0, _⟩ => rfl
  | ⟨1, _⟩ => show 64 * g + 1 * r.val = 64 * g + r.val; omega
  | ⟨2, _⟩ => show lane t k + 1 * (col y).val = lane t k + (col y).val; omega

/-- Tile `k`'s words hold the first `n` groups. -/
def Filled (t : Fin k0_t1_loop.trips) (k : Fin 2) (x : Vec Ideal S1x512x1024 .bf16) (n : ℕ) (w : Vec Ideal S2x320x2x128 .bf16) : Prop :=
  ∀ y : S8x128.Idx, (grp y).val < n → ∀ r, rowW w k y r = colX x (grp y) (laneAt t k y) r

theorem rowW_put (k g : ℕ) (hk : k < 2) (hg : g < 8) (v : Vec Ideal S1x32x2x128 .bf16) (w : Vec Ideal S2x320x2x128 .bf16)
    (y : S8x128.Idx) (r : ℕ) (hr : r < 64) (h : (grp y).val = g) :
    rowW (put (Rect.unit (s := S2x320x2x128) ![k, 40 * g, 0, 0] S1x32x2x128.size (inb_words k g hk hg)) v w) ⟨k, hk⟩ y r
      = v (ix4 0 ⟨r / 2, by omega⟩ ⟨r % 2, by omega⟩ (col y)) := by
  subst h
  rw [rowW, dif_pos hr]
  exact (congrArg _ (idx_words k (grp y).val hk hg ⟨r / 2, by omega⟩ ⟨r % 2, by omega⟩ (col y)).symm).trans (put_emb _ _ _ _)

theorem rowW_put_ne (k g : ℕ) (hk : k < 2) (hg : g < 8) (v : Vec Ideal S1x32x2x128 .bf16) (w : Vec Ideal S2x320x2x128 .bf16)
    (y : S8x128.Idx) (r : ℕ) (h : (grp y).val ≠ g) :
    rowW (put (Rect.unit (s := S2x320x2x128) ![k, 40 * g, 0, 0] S1x32x2x128.size (inb_words k g hk hg)) v w) ⟨k, hk⟩ y r
      = rowW w ⟨k, hk⟩ y r := by
  unfold rowW
  split
  next hr =>
    refine put_other _ _ _ _ fun j hj => ?_
    have h1 : 40 * g + 1 * (j 1).val = 40 * (grp y).val + r / 2 := congrArg (fun i : S2x320x2x128.Idx => (i 1).val) hj
    have h2 : (j 1).val < 32 := (j 1).isLt
    omega
  next => rfl

theorem fillGroups_spec (harg8 : R.arg8.IsWhole) (t : Fin k0_t1_loop.trips) (k : ℕ) (hk : k < 2) :
    ∀ (n g : ℕ) (h : g + n = 8) (σ : Mem), Filled t ⟨k, hk⟩ σ.x g σ.w →
      Runs R c σ (fillGroups R.arg2 R.arg8 harg8 t k hk n g h)
        (fun _ σ' => ∃ w', σ' = { σ with w := w' } ∧ Filled t ⟨k, hk⟩ σ.x 8 w')
  | 0, g, h, σ, hf => by
    obtain rfl : g = 8 := by omega
    exact Runs.ret ⟨σ.w, rfl, hf⟩
  | n + 1, g, h, σ, hf => by
    unfold fillGroups
    refine (Runs.load (slot2 R c) (Q := fun a σ' => σ = σ' ∧ a = fun j => σ.x ((Rect.unit (s := S1x512x1024) ![0, 64 * g, lane t k]
      S1x64x128.size (inb_group t k g hk (by omega))).toLoadRect.idx j)) ⟨rfl, rfl⟩).bind ?_
    rintro a _ ⟨rfl, ha⟩
    refine (Runs.load (slot8 R c) (Q := fun a σ' => σ = σ') rfl).bind ?_
    rintro _ _ rfl
    have hF : Filled t ⟨k, hk⟩ σ.x (g + 1) (put (Rect.unit (s := S2x320x2x128)
        ![k, 40 * g, 0, 0] S1x32x2x128.size (inb_words k g hk (by omega))) (pairUp a) σ.w) := by
      intro y hy r
      by_cases hr : r < 64
      · by_cases hg : (grp y).val = g
        · rw [rowW_put k g hk (by omega) _ _ y r hr hg, pairUp_apply, ha, colX, dif_pos hr]
          dsimp only
          rw [idx_group t k g hk (by omega)]
          have hr' : 2 * (r / 2) + r % 2 = r := by omega
          simp only [hr', hg]
        · rw [rowW_put_ne k g hk (by omega) _ _ y r hg]
          exact hf y (by omega) r
      · unfold rowW colX; rw [dif_neg hr, dif_neg hr]
    refine (Runs.store (slot8 R c) (Q := fun _ σ' => ∃ w', σ' = { σ with w := w' } ∧ Filled t ⟨k, hk⟩ σ.x (g + 1) w')
      ⟨_, rfl, hF⟩).bind ?_
    rintro _ _ ⟨w', rfl, hw'⟩
    refine (fillGroups_spec harg8 t k hk n (g + 1) (by omega) _ hw').mono ?_
    rintro _ σ' ⟨w'', rfl, hw⟩
    exact ⟨w'', rfl, hw⟩

/-! ## Minima and maxima -/

theorem idx_pair (k i : ℕ) (hk : k < 2) (hi : i < 32) (b : Fin 2) (y : S8x128.Idx) :
    (⟨![k, i, 0, 0], S1x8x2x128.size, ![1, 40, 1, 1], inb_pair k i hk hi⟩ : LoadRect S2x320x2x128).idx (ix4 0 (grp y) b (col y))
      = ix4 ⟨k, hk⟩ ⟨40 * (grp y).val + i, by omega⟩ b (col y) := by
  funext a
  apply Fin.ext
  match a with
  | ⟨0, _⟩ => rfl
  | ⟨1, _⟩ => show i + 40 * (grp y).val = 40 * (grp y).val + i; omega
  | ⟨2, _⟩ => show 0 + 1 * b.val = b.val; omega
  | ⟨3, _⟩ => show 0 + 1 * (col y).val = (col y).val; omega

variable {σ : Mem}

theorem loadPair_spec (k i : ℕ) (hk : k < 2) (hi : i < 32) :
    Runs R c σ (loadPair R.arg8 k i hk hi) (fun a σ' => σ = σ' ∧
      ∀ y, evenRow a y = rowW σ.w ⟨k, hk⟩ y (2 * i) ∧ oddRow a y = rowW σ.w ⟨k, hk⟩ y (2 * i + 1)) := by
  unfold loadPair
  refine Runs.load (slot8 R c) ⟨rfl, fun y => ⟨?_, ?_⟩⟩
  · rw [evenRow_apply, rowW, dif_pos (by omega)]
    refine (congrArg σ.w (idx_pair k i hk hi 0 y)).trans ?_
    have e1 : 2 * i / 2 = i := by omega
    have e2 : 2 * i % 2 = 0 := by omega
    simp only [e1, e2]; rfl
  · rw [oddRow_apply, rowW, dif_pos (by omega)]
    refine (congrArg σ.w (idx_pair k i hk hi 1 y)).trans ?_
    have e1 : (2 * i + 1) / 2 = i := by omega
    have e2 : (2 * i + 1) % 2 = 1 := by omega
    simp only [e1, e2]; rfl

/-- Minima and maxima over a group's first `n` rows. -/
def MinMax (f : S8x128.Idx → ℕ → EReal) (n : ℕ) (a : FVec Ideal S8x128 .f32 × FVec Ideal S8x128 .f32) : Prop :=
  ∀ y, a.1 y = (Finset.range n).inf (f y) ∧ a.2 y = (Finset.range n).sup (f y)

theorem MinMax.step {f : S8x128.Idx → ℕ → EReal} {i : ℕ} {a : FVec Ideal S8x128 .f32 × FVec Ideal S8x128 .f32}
    (ha : MinMax f (2 * i) a) {w : Vec Ideal S1x8x2x128 .bf16}
    (hw : ∀ y, evenRow w y = f y (2 * i) ∧ oddRow w y = f y (2 * i + 1)) : MinMax f (2 * (i + 1)) (minMaxStep w a) := by
  refine fun y => ⟨?_, ?_⟩
  · show min (a.1 y) (min (evenRow w y) (oddRow w y)) = _
    rw [show 2 * (i + 1) = 2 * i + 1 + 1 by omega, Finset.range_add_one, Finset.inf_insert, Finset.range_add_one,
      Finset.inf_insert, ← (ha y).1, (hw y).1, (hw y).2]
    simp only [inf_comm, inf_left_comm, inf_assoc]
  · show max (a.2 y) (max (evenRow w y) (oddRow w y)) = _
    rw [show 2 * (i + 1) = 2 * i + 1 + 1 by omega, Finset.range_add_one, Finset.sup_insert, Finset.range_add_one,
      Finset.sup_insert, ← (ha y).2, (hw y).1, (hw y).2]
    simp only [sup_comm, sup_left_comm, sup_assoc]

theorem minMaxFrom_spec (k : ℕ) (hk : k < 2) :
    ∀ (n i : ℕ) (h : i + n ≤ 32) (a : FVec Ideal S8x128 .f32 × FVec Ideal S8x128 .f32),
      MinMax (rowW σ.w ⟨k, hk⟩) (2 * i) a →
      Runs R c σ (minMaxFrom R.arg8 k hk n i h a) (fun a' σ' => σ = σ' ∧ MinMax (rowW σ.w ⟨k, hk⟩) (2 * (i + n)) a')
  | 0, i, h, a, ha => Runs.ret ⟨rfl, ha⟩
  | n + 1, i, h, a, ha => by
    unfold minMaxFrom
    refine (loadPair_spec k i hk (by omega)).bind ?_
    rintro w _ ⟨rfl, hw⟩
    refine (minMaxFrom_spec k hk n (i + 1) (by omega) _ (ha.step hw)).mono ?_
    rintro a' _ ⟨rfl, h'⟩
    rw [show i + 1 + n = i + (n + 1) by omega] at h'
    exact ⟨rfl, h'⟩

theorem minMax_spec (k : ℕ) (hk : k < 2) :
    Runs R c σ (minMax R.arg8 k hk) (fun a' σ' => σ = σ' ∧ MinMax (rowW σ.w ⟨k, hk⟩) (2 * 31) a') := by
  unfold minMax
  refine (loadPair_spec k 0 hk (by omega)).bind ?_
  rintro w _ ⟨rfl, hw⟩
  refine minMaxFrom_spec k hk 30 1 (by omega) _ fun y => ⟨?_, ?_⟩
  · show min (evenRow w y) (oddRow w y) = _
    rw [(hw y).1, (hw y).2, show 2 * 1 = 0 + 1 + 1 by omega, Finset.range_add_one, Finset.inf_insert, Finset.range_add_one,
      Finset.inf_insert, Finset.range_zero, Finset.inf_empty, inf_top_eq, inf_comm]
  · show max (evenRow w y) (oddRow w y) = _
    rw [(hw y).1, (hw y).2, show 2 * 1 = 0 + 1 + 1 by omega, Finset.range_add_one, Finset.sup_insert, Finset.range_add_one,
      Finset.sup_insert, Finset.range_zero, Finset.sup_empty, sup_bot_eq, sup_comm]

/-! ## The scaled weights -/

theorem storeRow_spec (k r : ℕ) (hk : k < 2) (hr : r < 64) (v : FVec Ideal S8x128 .f32) :
    Runs R c σ (storeRow R.arg9 k r hk hr v) (fun _ σ' => ∃ u', σ' = { σ with u := u' } ∧
      (∀ y, rowU u' ⟨k, hk⟩ y r = v y) ∧ ∀ k' y r', (k' ≠ ⟨k, hk⟩ ∨ r' ≠ r) → rowU u' k' y r' = rowU σ.u k' y r') := by
  unfold storeRow
  refine (Runs.load (slot9 R c) (Q := fun a σ' => σ = σ') rfl).bind ?_
  rintro _ _ rfl
  refine Runs.store (slot9 R c) ⟨_, rfl, fun y => ?_, fun k' y r' hne => ?_⟩
  · unfold rowU
    rw [dif_pos hr]
    refine (congrArg _ (idx_row k r hk hr y).symm).trans ((put_emb _ _ _ _).trans ?_)
    refine shapeCast_apply _ _ _ _ ?_
    rw [Shape.rowMajor_val_four, Shape.rowMajor_val_two]
    show (grp y).val * 128 + (col y).val = ((0 * 1 + 0) * 8 + (grp y).val) * 128 + (col y).val
    omega
  · unfold rowU
    split
    next hr' =>
      refine put_other _ _ _ _ fun j hj => ?_
      have h0 : k + 1 * (j 0).val = k'.val := congrArg (fun i : S2x64x8x128.Idx => (i 0).val) hj
      have h1 : r + 1 * (j 1).val = r' := congrArg (fun i : S2x64x8x128.Idx => (i 1).val) hj
      have j0 : (j 0).val < 1 := (j 0).isLt
      have j1 : (j 1).val < 1 := (j 1).isLt
      rcases hne with hne | hne
      · exact hne (Fin.ext (by show k'.val = k; omega))
      · omega
    next => rfl

theorem scaleRows_spec (k : ℕ) (hk : k < 2) (inv : FVec Ideal S8x128 .f32) :
    ∀ (n i : ℕ) (h : i + n = 32) (σ : Mem),
      (∀ y, ∀ r < 2 * i, rowU σ.u ⟨k, hk⟩ y r = rowW σ.w ⟨k, hk⟩ y r * inv y) →
      Runs R c σ (scaleRows R.arg8 R.arg9 k hk inv n i h) (fun _ σ' => ∃ u', σ' = { σ with u := u' } ∧
        (∀ y, ∀ r < 64, rowU u' ⟨k, hk⟩ y r = rowW σ.w ⟨k, hk⟩ y r * inv y) ∧
        ∀ k' y r, k' ≠ ⟨k, hk⟩ → rowU u' k' y r = rowU σ.u k' y r)
  | 0, i, h, σ, ha => by
    obtain rfl : i = 32 := by omega
    exact Runs.ret ⟨σ.u, rfl, ha, fun _ _ _ _ => rfl⟩
  | n + 1, i, h, σ, ha => by
    unfold scaleRows
    refine (loadPair_spec k i hk (by omega)).bind ?_
    rintro w σ' ⟨rfl, hw⟩
    refine (storeRow_spec k (2 * i) hk (by omega) _).bind ?_
    rintro _ _ ⟨u1, rfl, h1, h1'⟩
    refine (storeRow_spec k (2 * i + 1) hk (by omega) _).bind ?_
    rintro _ _ ⟨u2, rfl, h2, h2'⟩
    refine (scaleRows_spec k hk inv n (i + 1) (by omega) _ ?_).mono ?_
    · intro y r hr
      show rowU u2 ⟨k, hk⟩ y r = rowW σ.w ⟨k, hk⟩ y r * inv y
      by_cases e2 : r = 2 * i + 1
      · subst e2; rw [h2]; show oddRow w y * inv y = _; rw [(hw y).2]
      rw [h2' _ _ _ (.inr e2)]
      by_cases e1 : r = 2 * i
      · subst e1; refine (h1 y).trans ?_; show evenRow w y * inv y = _; rw [(hw y).1]
      exact (h1' _ _ _ (.inr e1)).trans (ha y r (by omega))
    · rintro _ _ ⟨u', rfl, h, h'⟩
      refine ⟨u', rfl, h, fun k' y r hne => ?_⟩
      rw [h' k' y r hne]
      exact (h2' _ _ _ (.inl hne)).trans (h1' _ _ _ (.inl hne))

end Cert.KernelIdeal.Hand

end
-- ==== Proof.IdealSpecPack.lean ====
/-
  What the programs that finish a tile leave: its packed codes, its error, its statistics.
-/
module

public import proofs.«01_k».proof.Proof.IdealSpecFill
public import Idealize.ShloMosaic.Lib.BitcastPair

@[expose] public section

set_option maxRecDepth 16384

noncomputable section

namespace Cert.KernelIdeal.Hand

open Cert.KernelIdeal.Gen
open Idealize.ShloMosaic Idealize.ShloMosaic.ValueIdx Idealize.SL.Sem

variable {R : Refs} {c : Dev nD} {σ : Mem}

/-! ## Packing -/

/-- Word `j` of a group and column, out of the words of tile `k`. -/
def wordB (b : Vec Ideal S2x64x128 .i32) (k : Fin 2) (y : S8x128.Idx) (j : ℕ) : BitVec 32 :=
  if h : j < 8 then b (ix3 k ⟨8 * (grp y).val + j, by omega⟩ (col y)) else 0

theorem idx_bytes (k j : ℕ) (hk : k < 2) (hj : j < 8) (y : S8x128.Idx) :
    (⟨(⟨![k, j, 0], S1x8x128.size, ![1, 8, 1], inb_bytes k j hk hj⟩ : LoadRect S2x64x128), spos_1_8_1⟩ : Rect S2x64x128).emb
      (ix3 0 (grp y) (col y)) = ix3 ⟨k, hk⟩ ⟨8 * (grp y).val + j, by omega⟩ (col y) := by
  funext a
  apply Fin.ext
  match a with
  | ⟨0, _⟩ => show k + 1 * 0 = k; omega
  | ⟨1, _⟩ => show j + 8 * (grp y).val = 8 * (grp y).val + j; omega
  | ⟨2, _⟩ => show 0 + 1 * (col y).val = (col y).val; omega

theorem storeWord_spec (k j : ℕ) (hk : k < 2) (hj : j < 8) (v : IVec S8x128 32) :
    Runs R c σ (storeWord (F := Ideal) R.arg10 k j hk hj v) (fun _ σ' => ∃ b', σ' = { σ with b := b' } ∧
      (∀ y, wordB b' ⟨k, hk⟩ y j = v y) ∧ ∀ y j', j' ≠ j → wordB b' ⟨k, hk⟩ y j' = wordB σ.b ⟨k, hk⟩ y j') := by
  unfold storeWord
  refine (Runs.load (slot10 R c) (Q := fun a σ' => σ = σ') rfl).bind ?_
  rintro _ _ rfl
  refine Runs.store (slot10 R c) ⟨_, rfl, fun y => ?_, fun y j' hne => ?_⟩
  · unfold wordB
    rw [dif_pos hj]
    refine (congrArg _ (idx_bytes k j hk hj y).symm).trans ((put_emb _ _ _ _).trans ?_)
    refine shapeCast_apply _ _ _ _ ?_
    rw [Shape.rowMajor_val_three, Shape.rowMajor_val_two]
    show (grp y).val * 128 + (col y).val = (0 * 8 + (grp y).val) * 128 + (col y).val
    omega
  · unfold wordB
    split
    next hj' =>
      refine put_other _ _ _ _ fun i hi => ?_
      have h1 : j + 8 * (i 1).val = 8 * (grp y).val + j' := congrArg (fun i : S2x64x128.Idx => (i 1).val) hi
      omega
    next => rfl

/-- Word `j` of every group and column of tile `k`, at zero points `z`. -/
def Packed (k : Fin 2) (z : FVec Ideal S8x128 .f32) (u : Vec Ideal S2x64x8x128 .f32) (n : ℕ) (b : Vec Ideal S2x64x128 .i32) : Prop :=
  ∀ y, ∀ j < n, wordB b k y j = sWord (z y) (rowU u k y) j

/-- The error's accumulators hold the terms of the first `n` rows. -/
def ErrSum (k : Fin 2) (z : FVec Ideal S8x128 .f32) (u : Vec Ideal S2x64x8x128 .f32) (n : ℕ) (a : Acc Ideal) : Prop :=
  ∀ y, (a.1 y + a.2.1 y) + (a.2.2.1 y + a.2.2.2 y) = ∑ r ∈ Finset.range n, sE (z y) (rowU u k y r)

theorem packFrom_spec (k : ℕ) (hk : k < 2) (z : FVec Ideal S8x128 .f32) :
    ∀ (n j : ℕ) (h : j + n = 8) (a : Acc Ideal) (σ : Mem), ErrSum ⟨k, hk⟩ z σ.u (8 * j) a → Packed ⟨k, hk⟩ z σ.u j σ.b →
      Runs R c σ (packFrom R.arg9 R.arg10 k hk z n j h a) (fun a' σ' => ∃ b', σ' = { σ with b := b' } ∧
        ErrSum ⟨k, hk⟩ z σ.u 64 a' ∧ Packed ⟨k, hk⟩ z σ.u 8 b')
  | 0, j, h, a, σ, ha, hb => by
    obtain rfl : j = 8 := by omega
    exact Runs.ret ⟨σ.b, rfl, ha, hb⟩
  | n + 1, j, h, a, σ, ha, hb => by
    unfold packFrom
    refine (loadRow_spec k (8 * j) hk (by omega)).bind ?_
    rintro r0 σ1 ⟨rfl, h0⟩
    refine (loadRow_spec k (8 * j + 1) hk (by omega)).bind ?_
    rintro r1 σ1 ⟨rfl, h1⟩
    refine (loadRow_spec k (8 * j + 2) hk (by omega)).bind ?_
    rintro r2 σ1 ⟨rfl, h2⟩
    refine (loadRow_spec k (8 * j + 3) hk (by omega)).bind ?_
    rintro r3 σ1 ⟨rfl, h3⟩
    refine (loadRow_spec k (8 * j + 4) hk (by omega)).bind ?_
    rintro r4 σ1 ⟨rfl, h4⟩
    refine (loadRow_spec k (8 * j + 5) hk (by omega)).bind ?_
    rintro r5 σ1 ⟨rfl, h5⟩
    refine (loadRow_spec k (8 * j + 6) hk (by omega)).bind ?_
    rintro r6 σ1 ⟨rfl, h6⟩
    refine (loadRow_spec k (8 * j + 7) hk (by omega)).bind ?_
    rintro r7 σ1 ⟨rfl, h7⟩
    refine (storeWord_spec k j hk (by omega) _).bind ?_
    rintro _ _ ⟨b1, rfl, hw, hw'⟩
    refine (packFrom_spec k hk z n (j + 1) (by omega) _ _ ?_ ?_).mono ?_
    · intro y
      show (((a.1 y + rowE z r0 y) + rowE z r4 y) + ((a.2.1 y + rowE z r1 y) + rowE z r5 y))
        + (((a.2.2.1 y + rowE z r2 y) + rowE z r6 y) + ((a.2.2.2 y + rowE z r3 y) + rowE z r7 y)) = _
      dsimp only
      rw [show 8 * (j + 1) = 8 * j + 7 + 1 by omega, Finset.sum_range_succ, Finset.sum_range_succ, Finset.sum_range_succ,
        Finset.sum_range_succ, Finset.sum_range_succ, Finset.sum_range_succ, Finset.sum_range_succ, Finset.sum_range_succ,
        ← ha y]
      simp only [rowE_apply, h0, h1, h2, h3, h4, h5, h6, h7]
      abel
    · intro y i hi
      show wordB b1 ⟨k, hk⟩ y i = sWord (z y) (rowU σ.u ⟨k, hk⟩ y) i
      by_cases e : i = j
      · subst e
        rw [hw y, wordOf_apply]
        simp only [h0, h1, h2, h3, h4, h5, h6, h7]
        rfl
      · rw [hw' y i e]; exact hb y i (by omega)
    · rintro a' _ ⟨b', rfl, h, h'⟩
      exact ⟨b', rfl, h, h'⟩

theorem pack_spec (k : ℕ) (hk : k < 2) (z : FVec Ideal S8x128 .f32) :
    Runs R c σ (pack R.arg9 R.arg10 k hk z) (fun a' σ' => ∃ b', σ' = { σ with b := b' } ∧
        ErrSum ⟨k, hk⟩ z σ.u 64 a' ∧ Packed ⟨k, hk⟩ z σ.u 8 b') := by
  unfold pack
  refine (loadRow_spec k 0 hk (by omega)).bind ?_
  rintro r0 σ1 ⟨rfl, h0⟩
  refine (loadRow_spec k 1 hk (by omega)).bind ?_
  rintro r1 σ1 ⟨rfl, h1⟩
  refine (loadRow_spec k 2 hk (by omega)).bind ?_
  rintro r2 σ1 ⟨rfl, h2⟩
  refine (loadRow_spec k 3 hk (by omega)).bind ?_
  rintro r3 σ1 ⟨rfl, h3⟩
  refine (loadRow_spec k 4 hk (by omega)).bind ?_
  rintro r4 σ1 ⟨rfl, h4⟩
  refine (loadRow_spec k 5 hk (by omega)).bind ?_
  rintro r5 σ1 ⟨rfl, h5⟩
  refine (loadRow_spec k 6 hk (by omega)).bind ?_
  rintro r6 σ1 ⟨rfl, h6⟩
  refine (loadRow_spec k 7 hk (by omega)).bind ?_
  rintro r7 σ1 ⟨rfl, h7⟩
  refine (storeWord_spec k 0 hk (by omega) _).bind ?_
  rintro _ _ ⟨b1, rfl, hw, hw'⟩
  refine (packFrom_spec k hk z 7 1 rfl _ _ ?_ ?_).mono ?_
  · intro y
    show ((rowE z r0 y + rowE z r4 y) + (rowE z r1 y + rowE z r5 y))
      + ((rowE z r2 y + rowE z r6 y) + (rowE z r3 y + rowE z r7 y)) = _
    dsimp only
    rw [show 8 * 1 = 0 + 7 + 1 by omega, Finset.sum_range_succ, Finset.sum_range_succ, Finset.sum_range_succ,
      Finset.sum_range_succ, Finset.sum_range_succ, Finset.sum_range_succ, Finset.sum_range_succ, Finset.sum_range_succ]
    simp only [rowE_apply, h0, h1, h2, h3, h4, h5, h6, h7, Finset.range_zero, Finset.sum_empty, zero_add]
    abel
  · intro y i hi
    obtain rfl : i = 0 := by omega
    show wordB b1 ⟨k, hk⟩ y 0 = sWord (z y) (rowU σ.u ⟨k, hk⟩ y) 0
    rw [hw y, wordOf_apply]
    simp only [h0, h1, h2, h3, h4, h5, h6, h7]
    rfl
  · rintro a' _ ⟨b', rfl, h, h'⟩
    exact ⟨b', rfl, h, h'⟩

/-! ## The results -/

/-- A block of statistics at a group and a column of the block. -/
def statAt (s : Vec Ideal S1x8x1024 .f32) (g : Fin 8) (l : Fin 1024) : EReal := s (ix3 0 g l)

theorem idx_stat (t : Fin k0_t1_loop.trips) (k : ℕ) (hk : k < 2) (y : S8x128.Idx) :
    (Rect.unit (s := S1x8x1024) ![0, 0, lane t k] S1x8x128.size (inb_stat t k hk)).emb (ix3 0 (grp y) (col y))
      = ix3 0 (grp y) (laneAt t ⟨k, hk⟩ y) := by
  funext a
  apply Fin.ext
  match a with
  | ⟨0, _⟩ => rfl
  | ⟨1, _⟩ => show 0 + 1 * (grp y).val = (grp y).val; omega
  | ⟨2, _⟩ => show lane t k + 1 * (col y).val = lane t k + (col y).val; omega

/-- `s'` is `s` with tile `k`'s statistics `v`. -/
def StatPut (t : Fin k0_t1_loop.trips) (k : Fin 2) (v : S8x128.Idx → EReal) (s s' : Vec Ideal S1x8x1024 .f32) : Prop :=
  (∀ y, statAt s' (grp y) (laneAt t k y) = v y) ∧
    ∀ g l, l.val < lane t k.val ∨ lane t k.val + 128 ≤ l.val → statAt s' g l = statAt s g l

theorem storeStat_spec {M : Memref sig .tc .vmem S1x8x1024 .f32} (L : Slot R c M) (t : Fin k0_t1_loop.trips) (k : ℕ) (hk : k < 2)
    (v : FVec Ideal S8x128 .f32) :
    Runs R c σ (storeStat M t k hk v) (fun _ σ' => ∃ s', σ' = L.set σ s' ∧ StatPut t ⟨k, hk⟩ v (L.get σ) s') := by
  unfold storeStat
  refine (Runs.load L (Q := fun a σ' => σ = σ') rfl).bind ?_
  rintro _ _ rfl
  refine Runs.store L ⟨_, rfl, fun y => ?_, fun g l hl => ?_⟩
  · unfold statAt
    refine (congrArg _ (idx_stat t k hk y).symm).trans ((put_emb _ _ _ _).trans ?_)
    refine shapeCast_apply _ _ _ _ ?_
    rw [Shape.rowMajor_val_three, Shape.rowMajor_val_two]
    show (grp y).val * 128 + (col y).val = (0 * 8 + (grp y).val) * 128 + (col y).val
    omega
  · refine put_other _ _ _ _ fun i hi => ?_
    have h2 : lane t k + 1 * (i 2).val = l.val := congrArg (fun i : S1x8x1024.Idx => (i 2).val) hi
    have h3 : (i 2).val < 128 := (i 2).isLt
    rcases hl with hl | hl
    · have hl' : l.val < lane t k := hl
      omega
    · have hl' : lane t k + 128 ≤ l.val := hl
      omega

/-- A block of codes: byte row `r` and column `l` of the block. -/
def codeAt (q : Vec Ideal S1x256x1024 .i8) (r : Fin 256) (l : Fin 1024) : BitVec 8 := q (ix3 0 r l)

/-- Byte `i` of a word. -/
def byteOf (w : BitVec 32) (i : ℕ) : BitVec 8 := (w >>> (8 * i)).setWidth 8

/-- `q'` is `q` with the bytes of tile `k`'s words `b`. -/
def CodePut (t : Fin k0_t1_loop.trips) (k : Fin 2) (b : Vec Ideal S2x64x128 .i32) (q q' : Vec Ideal S1x256x1024 .i8) : Prop :=
  (∀ y (j : ℕ) (hj : j < 8) (i : ℕ) (hi : i < 4),
    codeAt q' ⟨32 * (grp y).val + 4 * j + i, by omega⟩ (laneAt t k y) = byteOf (wordB b k y j) i) ∧
    ∀ r l, l.val < lane t k.val ∨ lane t k.val + 128 ≤ l.val → codeAt q' r l = codeAt q r l

theorem bytesOf_apply (x : Vec Ideal S1x64x128 .i32) (r : Fin 256) (l : Fin 128) :
    bytesOf x (ix3 0 r l) = byteOf (x (ix3 0 ⟨r.val / 4, by omega⟩ l)) (r.val % 4) := by
  show shapeCast S1x256x128 (bitcast S256x128 8 (shapeCast S64x128 x shapeCasts_S1x64x128_S64x128) bitcasts_S64x128_w32_S256x128_w8)
    shapeCasts_S256x128_S1x256x128 (ix3 0 r l) = _
  rw [shapeCast_apply _ _ (ix3 0 r l) (ix2 r l) (by
      rw [Shape.rowMajor_val_three, Shape.rowMajor_val_two]
      show r.val * 128 + l.val = (0 * 256 + r.val) * 128 + l.val
      omega)]
  refine BitVec.eq_of_getLsbD_eq fun q hq => ?_
  have hl := r.isLt
  rw [bitcast_getLsbD _ bitcasts_S64x128_w32_S256x128_w8 (ix2 r l) q hq (by decide), byteOf, BitVec.getLsbD_setWidth,
    BitVec.getLsbD_ushiftRight]
  have hrow : S256x128.row (ix2 r l) = r.val := rfl
  have e2 : (S256x128.row (ix2 r l) * 8 + q) % 32 = 8 * (r.val % 4) + q := by rw [hrow]; omega
  have e1 : (S256x128.row (ix2 r l) * 8 + q) / 32 = r.val / 4 := by rw [hrow]; omega
  rw [e2]
  simp only [hq, decide_true, Bool.true_and]
  refine congrArg (fun w : BitVec 32 => w.getLsbD (8 * (r.val % 4) + q)) ?_
  rw [shapeCast_apply x _ _ (ix3 0 ⟨r.val / 4, by omega⟩ l)]
  rw [Shape.rowMajor_val_three, Shape.rowMajor_val_two]
  refine Eq.trans (b := r.val / 4 * 128 + l.val) (by
    show (0 * 64 + r.val / 4) * 128 + l.val = r.val / 4 * 128 + l.val
    omega) (Eq.symm (congrArg₂ (fun a b => a * 128 + b)
      ((bitcasts_S64x128_w32_S256x128_w8.srcIdx_row _ _ _ ⟨0, Nat.zero_lt_two⟩ rfl).trans e1)
      (bitcasts_S64x128_w32_S256x128_w8.srcIdx_other _ _ _ ⟨1, Nat.one_lt_two⟩ (by show ¬ 1 + 2 = 2; omega))))

theorem lane_k10 (t : Fin k0_t1_loop.trips) (k : ℕ) (hk : k < 2) : k0_off10 t (BitVec.ofNat 32 k) = ![0, 0, lane t k] := by
  obtain rfl | rfl : k = 0 ∨ k = 1 := by omega
  · rfl
  · rfl

theorem idx_codes (t : Fin k0_t1_loop.trips) (k : ℕ) (hk : k < 2) (r : Fin 256) (y : S8x128.Idx) :
    (Rect.unit (s := S1x256x1024) (k0_off10 t (BitVec.ofNat 32 k)) S1x256x128.size (k0_off10_inb t ⟨k, hk⟩)).emb (ix3 0 r (col y))
      = ix3 0 r (laneAt t ⟨k, hk⟩ y) := by
  have h := lane_k10 t k hk
  funext a
  apply Fin.ext
  match a with
  | ⟨0, _⟩ => rfl
  | ⟨1, _⟩ =>
    show k0_off10 t (BitVec.ofNat 32 k) 1 + 1 * r.val = r.val; rw [h]; show 0 + 1 * r.val = r.val; omega
  | ⟨2, _⟩ =>
    show k0_off10 t (BitVec.ofNat 32 k) 2 + 1 * (col y).val = lane t k + (col y).val
    rw [h]; show lane t k + 1 * (col y).val = lane t k + (col y).val; omega

theorem storeCodes_spec (harg3 : R.arg3.IsWhole) (t : Fin k0_t1_loop.trips) (k : ℕ) (hk : k < 2) :
    Runs R c σ (storeCodes R.arg3 harg3 R.arg10 t k hk) (fun _ σ' => ∃ q', σ' = { σ with codes := q' } ∧
      CodePut t ⟨k, hk⟩ σ.b σ.codes q') := by
  unfold storeCodes
  refine (Runs.load (slot10 R c) (Q := fun a σ' => σ = σ' ∧ a = fun j => σ.b ((Rect.unit (s := S2x64x128) ![k, 0, 0]
      S1x64x128.size (inb_all k hk)).toLoadRect.idx j)) ⟨rfl, rfl⟩).bind ?_
  rintro a _ ⟨rfl, ha⟩
  refine (Runs.load (slot3 R c) (Q := fun a σ' => σ = σ') rfl).bind ?_
  rintro _ _ rfl
  refine Runs.store (slot3 R c) ⟨_, rfl, fun y j hj i hi => ?_, fun r l hl => ?_⟩
  · unfold codeAt
    refine (congrArg _ (idx_codes t k hk _ y).symm).trans ((put_emb _ _ _ _).trans ?_)
    rw [bytesOf_apply, ha, wordB, dif_pos hj]
    dsimp only
    have e1 : (32 * (grp y).val + 4 * j + i) / 4 = 8 * (grp y).val + j := by omega
    have e2 : (32 * (grp y).val + 4 * j + i) % 4 = i := by omega
    rw [e2]
    refine congrArg (fun w => byteOf (σ.b w) i) ?_
    funext a
    apply Fin.ext
    match a with
    | ⟨0, _⟩ => show k + 1 * 0 = k; omega
    | ⟨1, _⟩ => show 0 + 1 * ((32 * (grp y).val + 4 * j + i) / 4) = 8 * (grp y).val + j; omega
    | ⟨2, _⟩ => show 0 + 1 * (col y).val = (col y).val; omega
  · refine put_other _ _ _ _ fun i hi => ?_
    have h2 : k0_off10 t (BitVec.ofNat 32 k) 2 + 1 * (i 2).val = l.val := congrArg (fun i : S1x256x1024.Idx => (i 2).val) hi
    have h4 : k0_off10 t (BitVec.ofNat 32 k) 2 = lane t k := by rw [lane_k10 t k hk]; rfl
    rw [h4] at h2
    have h3 : (i 2).val < 128 := (i 2).isLt
    rcases hl with hl | hl
    · have hl' : l.val < lane t k := hl
      omega
    · have hl' : lane t k + 128 ≤ l.val := hl
      omega

end Cert.KernelIdeal.Hand

end
-- ==== Proof.IdealFitEq.lean ====
/-
  The printed body of the fit loop is the short program `fitTrip`, by unfolding.
-/
module

public import proofs.«01_k».proof.Proof.IdealProgram

@[expose] public section

set_option maxRecDepth 65536

noncomputable section

namespace Cert.KernelIdeal.Hand

open Cert.KernelIdeal.Gen
open Idealize.ShloMosaic Idealize.SL.Sem

variable {F : FTy → Type} [FloatOps F] [Named F]

section Eq

variable (i : grid0.Coords)
  (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)

set_option maxHeartbeats 0 in
theorem k0_t2_body_eq (k0_t1 : Fin k0_t1_loop.trips) (v453 v978 v983 : FVec F S8x128 .f32) (v991 : BitVec 32)
    (v1435 v1440 v1965 v1968 : FVec F S8x128 .f32) (cst : F .f32) (t : Fin k0_t2_loop.trips) (s) :
    k0_t2_body i arg2 harg2 arg3 harg3 arg4 harg4 arg5 harg5 arg6 harg6 arg7 harg7 arg8 harg8 arg9 harg9 arg10 harg10 k0_t1 v453 v978 v983 v991 v1435 v1440 v1965 v1968 cst t s = fitTrip arg9 s := by
  obtain ⟨z0, c0, s0, z1, c1, s1⟩ := s
  rfl

end Eq

end Cert.KernelIdeal.Hand
-- ==== Proof.IdealTripSpec.lean ====
/-
  What one trip of the outer loop leaves: the results of its 256 columns.
-/
module

public import proofs.«01_k».proof.Proof.IdealSpecPack
public import proofs.«01_k».proof.Proof.IdealFitEq

@[expose] public section

set_option maxRecDepth 16384

noncomputable section

namespace Cert.KernelIdeal.Hand

open Cert.KernelIdeal.Gen
open Idealize.ShloMosaic Idealize.ShloMosaic.ValueIdx Idealize.SL.Sem

variable {R : Refs} {c : Dev nD} {σ : Mem}

/-- The weights of the group and column an index of tile `k` stands for. -/
def tileCol (t : Fin k0_t1_loop.trips) (k : Fin 2) (x : Vec Ideal S1x512x1024 .bf16) (y : S8x128.Idx) : ℕ → EReal :=
  colX x (grp y) (laneAt t k y)

/-! ## Preparing a tile -/

/-- Minima and maxima of the tile's columns over the first 31 pairs of rows. -/
theorem fillTile_spec (harg8 : R.arg8.IsWhole) (t : Fin k0_t1_loop.trips) (k : ℕ) (hk : k < 2) :
    Runs R c σ (fillTile R.arg2 R.arg8 harg8 t k hk) (fun a σ' => ∃ w', σ' = { σ with w := w' } ∧
      (∀ y, rowW w' ⟨k, hk⟩ y = tileCol t ⟨k, hk⟩ σ.x y) ∧ MinMax (rowW w' ⟨k, hk⟩) (2 * 31) a) := by
  unfold fillTile
  refine (fillGroups_spec harg8 t k hk 8 0 rfl σ fun y hy => absurd hy (Nat.not_lt_zero _)).bind ?_
  rintro _ _ ⟨w', rfl, hw⟩
  refine (minMax_spec k hk).mono ?_
  rintro a _ ⟨rfl, ha⟩
  exact ⟨w', rfl, fun y => funext fun r => hw y (grp y).isLt r, ha⟩

/-- The extremes of a tile's columns. -/
def Extremes (f : S8x128.Idx → ℕ → EReal) (a : FVec Ideal S8x128 .f32 × FVec Ideal S8x128 .f32) : Prop :=
  ∀ y, a.1 y = gMin (f y) ∧ a.2 y = gMax (f y)

theorem Extremes.scale {f a} (h : Extremes f a) (y : S8x128.Idx) : scaleOf a y = gS (f y) := by
  rw [scaleOf_apply, (h y).1, (h y).2]; rfl

theorem Extremes.start {f a} (h : Extremes f a) (y : S8x128.Idx) : startOf a y = gZ0 (f y) := by
  rw [startOf_apply, (h y).1, (h y).2]; rfl

/-- Tile `k`'s scaled weights are in place. -/
def Scaled (t : Fin k0_t1_loop.trips) (k : Fin 2) (x : Vec Ideal S1x512x1024 .bf16) (u : Vec Ideal S2x64x8x128 .f32) : Prop :=
  ∀ y, rowU u k y = gU (tileCol t k x y)

theorem scaleTile_spec (t : Fin k0_t1_loop.trips) (k : ℕ) (hk : k < 2) (a : FVec Ideal S8x128 .f32 × FVec Ideal S8x128 .f32)
    (hw : ∀ y, rowW σ.w ⟨k, hk⟩ y = tileCol t ⟨k, hk⟩ σ.x y) (ha : Extremes (tileCol t ⟨k, hk⟩ σ.x) a) :
    Runs R c σ (scaleTile R.arg8 R.arg9 k hk a) (fun _ σ' => ∃ u', σ' = { σ with u := u' } ∧
      Scaled t ⟨k, hk⟩ σ.x u' ∧ ∀ k', k' ≠ ⟨k, hk⟩ → Scaled t k' σ.x σ.u → Scaled t k' σ.x u') := by
  unfold scaleTile
  refine (scaleRows_spec k hk _ 32 0 rfl σ fun y r hr => absurd hr (Nat.not_lt_zero _)).mono ?_
  rintro _ _ ⟨u', rfl, h, h'⟩
  refine ⟨u', rfl, fun y => funext fun r => ?_, fun k' hne hs y => ?_⟩
  · by_cases hr : r < 64
    · rw [h y r hr, hw y, invOf_apply, ha.scale]; rfl
    · unfold rowU gU tileCol colX
      rw [dif_neg hr, dif_neg hr, zero_mul]
  · rw [← hs y]; exact funext fun r => h' k' y r hne

/-! ## The fit -/

/-- The fit vectors of the two tiles. -/
abbrev Six := FVec Ideal S8x128 .f32 × FVec Ideal S8x128 .f32 × FVec Ideal S8x128 .f32 × FVec Ideal S8x128 .f32
  × FVec Ideal S8x128 .f32 × FVec Ideal S8x128 .f32

/-- Tile `k`'s fit vectors after `n` iterations. -/
def Fitted (f : S8x128.Idx → ℕ → EReal) (n : ℕ) (s : Fit Ideal) : Prop :=
  ∀ y, fitAt s y = sIter (gU (f y)) (gZ0 (f y), sCut (gS (f y)), sStp (gS (f y))) n

theorem Extremes.log {f a} (h : Extremes f a) (y : S8x128.Idx) : log2 (scaleOf a) y = sLog2 (gS (f y)) :=
  congrArg sLog2 (h.scale y)

theorem Extremes.fit {f a} (h : Extremes f a) : Fitted f 0 (startOf a, cutOf (scaleOf a), stepOf (scaleOf a)) := fun y =>
  Prod.ext (h.start y) (Prod.ext (congrArg sCut (h.scale y)) (congrArg sStp (h.scale y)))

theorem Fitted.step {f n} {s s' : Fit Ideal} (h : Fitted f n s)
    (hs : ∀ y, fitAt s' y = sStep (gU (f y)) (sStep (gU (f y)) (fitAt s y))) : Fitted f (n + 2) s' := by
  intro y
  rw [hs y, h y]
  unfold sIter
  rw [Function.iterate_succ_apply', Function.iterate_succ_apply']

theorem fitLoop_spec (t : Fin k0_t1_loop.trips) (i : grid0.Coords) {harg2 harg3 harg4 harg5 harg6 harg7 harg8 harg9 harg10} {v0 v1 v2 v3 v4 v5 v6 v7}
    (cc : Ideal .f32) (s : Six)
    (h0 : Scaled t 0 σ.x σ.u) (h1 : Scaled t 1 σ.x σ.u)
    (hs : Fitted (tileCol t 0 σ.x) 0 (s.1, s.2.1, s.2.2.1)) (hs' : Fitted (tileCol t 1 σ.x) 0 (s.2.2.2.1, s.2.2.2.2.1, s.2.2.2.2.2)) :
    Runs R c σ (Scf.Loop.for k0_t2_loop k0_t2_ok s
      (k0_t2_body i R.arg2 harg2 R.arg3 harg3 R.arg4 harg4 R.arg5 harg5 R.arg6 harg6 R.arg7 harg7 R.arg8 harg8 R.arg9 harg9 R.arg10 harg10 t v0 v1 v2 v3 v4 v5 v6 v7 cc))
      (fun (a : Six) σ' => σ = σ' ∧ Fitted (tileCol t 0 σ.x) 20 (a.1, a.2.1, a.2.2.1) ∧
        Fitted (tileCol t 1 σ.x) 20 (a.2.2.2.1, a.2.2.2.2.1, a.2.2.2.2.2)) := by
  refine Runs.for (fun n (a : Six) σ' => σ = σ' ∧ Fitted (tileCol t 0 σ.x) (2 * n) (a.1, a.2.1, a.2.2.1) ∧
        Fitted (tileCol t 1 σ.x) (2 * n) (a.2.2.2.1, a.2.2.2.2.1, a.2.2.2.2.2)) ⟨rfl, hs, hs'⟩ ?_
  rintro n a _ ⟨rfl, ha, ha'⟩
  rw [k0_t2_body_eq]
  refine (fitTrip_spec a).mono ?_
  rintro b _ ⟨rfl, hb⟩
  refine ⟨rfl, ha.step fun y => ?_, ha'.step fun y => ?_⟩
  · rw [(hb y).1, h0 y]
  · rw [(hb y).2, h1 y]

/-! ## Storing a tile's results -/

/-- The bytes of tile `k`'s columns. -/
def CodesPut (t : Fin k0_t1_loop.trips) (k : Fin 2) (f : S8x128.Idx → ℕ → EReal) (q q' : Vec Ideal S1x256x1024 .i8) : Prop :=
  (∀ y (j : ℕ) (hj : j < 8) (i : ℕ) (hi : i < 4),
    codeAt q' ⟨32 * (grp y).val + 4 * j + i, by omega⟩ (laneAt t k y) = byteOf (gWord (f y) j) i) ∧
    ∀ r l, l.val < lane t k.val ∨ lane t k.val + 128 ≤ l.val → codeAt q' r l = codeAt q r l

theorem finish_spec (harg3 : R.arg3.IsWhole) (t : Fin k0_t1_loop.trips) (k : ℕ) (hk : k < 2) (logS start z : FVec Ideal S8x128 .f32)
    (hu : Scaled t ⟨k, hk⟩ σ.x σ.u)
    (hl : ∀ y, logS y = sLog2 (gS (tileCol t ⟨k, hk⟩ σ.x y))) (h0 : ∀ y, start y = gZ0 (tileCol t ⟨k, hk⟩ σ.x y))
    (hz : ∀ y, z y = gZ (tileCol t ⟨k, hk⟩ σ.x y)) :
    Runs R c σ (finish R.arg3 harg3 R.arg5 R.arg6 R.arg7 R.arg9 R.arg10 t k hk logS start z) (fun _ σ' =>
      σ'.x = σ.x ∧ σ'.s = σ.s ∧ σ'.u = σ.u
      ∧ StatPut t ⟨k, hk⟩ (fun y => gZ (tileCol t ⟨k, hk⟩ σ.x y)) σ.z σ'.z
      ∧ StatPut t ⟨k, hk⟩ (fun y => gErr (tileCol t ⟨k, hk⟩ σ.x y)) σ.err σ'.err
      ∧ StatPut t ⟨k, hk⟩ (fun y => gShift (tileCol t ⟨k, hk⟩ σ.x y)) σ.shift σ'.shift
      ∧ CodesPut t ⟨k, hk⟩ (tileCol t ⟨k, hk⟩ σ.x) σ.codes σ'.codes) := by
  unfold finish
  refine (pack_spec k hk z).bind ?_
  rintro e _ ⟨b', rfl, he, hb⟩
  refine (storeCodes_spec harg3 t k hk).bind ?_
  rintro _ _ ⟨q', rfl, hq⟩
  refine (storeStat_spec (slot6 R c) t k hk _).bind ?_
  rintro _ _ ⟨e', rfl, he'⟩
  refine (storeStat_spec (slot5 R c) t k hk _).bind ?_
  rintro _ _ ⟨z', rfl, hz'⟩
  refine (storeStat_spec (slot7 R c) t k hk _).mono ?_
  rintro _ _ ⟨d', rfl, hd'⟩
  refine ⟨rfl, rfl, rfl, ⟨fun y => (hz'.1 y).trans (hz y), hz'.2⟩, ⟨fun y => (he'.1 y).trans ?_, he'.2⟩,
    ⟨fun y => (hd'.1 y).trans ?_, hd'.2⟩, ⟨fun y j hj i hi => (hq.1 y j hj i hi).trans ?_, hq.2⟩⟩
  · show (((e.1 y + e.2.1 y) + (e.2.2.1 y + e.2.2.2 y)) * Ideal.exp2 (logS y * cst 0x3F333333#32)) * cst 0x3C800000#32 = _
    rw [he y, hl y, hz y, hu y]; rfl
  · show z y - start y = _
    rw [hz y, h0 y]; rfl
  · show byteOf (wordB b' ⟨k, hk⟩ y j) i = _
    rw [hb y j hj, hz y, hu y]; rfl

end Cert.KernelIdeal.Hand

end
-- ==== Proof.IdealCuts.lean ====
/-
  The printed body of a trip of the outer loop, cut where few values pass: a tile's words and all but the last pair of
  its minima and maxima; its scales and scaled weights; the same for the second tile; the fit and the results.
-/
module

public import proofs.«01_k».proof.Proof.Gen.KernelIdeal.Skeleton

@[expose] public section

set_option maxRecDepth 65536

noncomputable section

namespace Cert.KernelIdeal.Hand

open Cert.KernelIdeal.Gen
open Idealize.ShloMosaic Idealize.SL.Sem

variable {F : FTy → Type} [FloatOps F] [Named F]
variable (i : grid0.Coords) (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)

def cutA0 (c0_i32 c1_i32 : BitVec 32) (k0_t1 : Fin k0_t1_loop.trips) :
    Prog (TpuEff nD τ sig (Elt F) Λ₀ .tc) (BitVec 32 × BitVec 32 × FVec F S8x128 .f32 × FVec F S8x128 .f32 × Vec F S1x8x2x128 .bf16) := do
  let x122 ← k0_part122 i arg2 harg2 arg3 harg3 arg4 harg4 arg5 harg5 arg6 harg6 arg7 harg7 arg8 harg8 arg9 harg9 arg10 harg10 c0_i32 c1_i32 k0_t1
  let x123 ← k0_part123 i arg2 harg2 arg3 harg3 arg4 harg4 arg5 harg5 arg6 harg6 arg7 harg7 arg8 harg8 arg9 harg9 arg10 harg10 k0_t1 x122.2.1 x122.2.2.1 x122.2.2.2.1 x122.2.2.2.2
  let x124 ← k0_part124 i arg2 harg2 arg3 harg3 arg4 harg4 arg5 harg5 arg6 harg6 arg7 harg7 arg8 harg8 arg9 harg9 arg10 harg10 k0_t1 x122.2.1 x123.1 x123.2
  let x125 ← k0_part125 i arg2 harg2 arg3 harg3 arg4 harg4 arg5 harg5 arg6 harg6 arg7 harg7 arg8 harg8 arg9 harg9 arg10 harg10 x124.1 x124.2.1 x124.2.2
  let x126 ← k0_part126 i arg2 harg2 arg3 harg3 arg4 harg4 arg5 harg5 arg6 harg6 arg7 harg7 arg8 harg8 arg9 harg9 arg10 harg10 x125.1 x125.2.1 x125.2.2.1 x125.2.2.2
  let x127 ← k0_part127 i arg2 harg2 arg3 harg3 arg4 harg4 arg5 harg5 arg6 harg6 arg7 harg7 arg8 harg8 arg9 harg9 arg10 harg10 x126.1 x126.2.1 x126.2.2.1 x126.2.2.2
  let x128 ← k0_part128 i arg2 harg2 arg3 harg3 arg4 harg4 arg5 harg5 arg6 harg6 arg7 harg7 arg8 harg8 arg9 harg9 arg10 harg10 x127.1 x127.2.1 x127.2.2
  let x129 ← k0_part129 i arg2 harg2 arg3 harg3 arg4 harg4 arg5 harg5 arg6 harg6 arg7 harg7 arg8 harg8 arg9 harg9 arg10 harg10 x128.1 x128.2.1 x128.2.2.1 x128.2.2.2
  let x130 ← k0_part130 i arg2 harg2 arg3 harg3 arg4 harg4 arg5 harg5 arg6 harg6 arg7 harg7 arg8 harg8 arg9 harg9 arg10 harg10 x129.1 x129.2.1 x129.2.2.1 x129.2.2.2
  let x131 ← k0_part131 i arg2 harg2 arg3 harg3 arg4 harg4 arg5 harg5 arg6 harg6 arg7 harg7 arg8 harg8 arg9 harg9 arg10 harg10 x130.1 x130.2.1 x130.2.2
  let x132 ← k0_part132 i arg2 harg2 arg3 harg3 arg4 harg4 arg5 harg5 arg6 harg6 arg7 harg7 arg8 harg8 arg9 harg9 arg10 harg10 x131.1 x131.2.1 x131.2.2.1 x131.2.2.2
  let x133 ← k0_part133 i arg2 harg2 arg3 harg3 arg4 harg4 arg5 harg5 arg6 harg6 arg7 harg7 arg8 harg8 arg9 harg9 arg10 harg10 x132.1 x132.2.1 x132.2.2.1 x132.2.2.2
  pure (x122.1, x122.2.1, x133.1, x133.2.1, x133.2.2)

def cutS0 (v429 v430 : FVec F S8x128 .f32) (v431_raw : Vec F S1x8x2x128 .bf16) : Prog (TpuEff nD τ sig (Elt F) Λ₀ .tc) (FVec F S8x128 .f32 × FVec F S8x128 .f32 × FVec F S8x128 .f32 × FVec F S8x128 .f32 × FVec F S8x128 .f32) := do
  let x134 ← k0_part134 i arg2 harg2 arg3 harg3 arg4 harg4 arg5 harg5 arg6 harg6 arg7 harg7 arg8 harg8 arg9 harg9 arg10 harg10 v429 v430 v431_raw
  let x135 ← k0_part135 i arg2 harg2 arg3 harg3 arg4 harg4 arg5 harg5 arg6 harg6 arg7 harg7 arg8 harg8 arg9 harg9 arg10 harg10 x134.2.1 x134.2.2.2
  let x136 ← k0_part136 i arg2 harg2 arg3 harg3 arg4 harg4 arg5 harg5 arg6 harg6 arg7 harg7 arg8 harg8 arg9 harg9 arg10 harg10 x134.2.1 x135
  let x137 ← k0_part137 i arg2 harg2 arg3 harg3 arg4 harg4 arg5 harg5 arg6 harg6 arg7 harg7 arg8 harg8 arg9 harg9 arg10 harg10 x134.2.1 x136
  let x138 ← k0_part138 i arg2 harg2 arg3 harg3 arg4 harg4 arg5 harg5 arg6 harg6 arg7 harg7 arg8 harg8 arg9 harg9 arg10 harg10 x134.2.1 x137.1 x137.2
  let x139 ← k0_part139 i arg2 harg2 arg3 harg3 arg4 harg4 arg5 harg5 arg6 harg6 arg7 harg7 arg8 harg8 arg9 harg9 arg10 harg10 x134.2.1 x138.1 x138.2
  let x140 ← k0_part140 i arg2 harg2 arg3 harg3 arg4 harg4 arg5 harg5 arg6 harg6 arg7 harg7 arg8 harg8 arg9 harg9 arg10 harg10 x134.2.1 x139.1 x139.2
  k0_part141 i arg2 harg2 arg3 harg3 arg4 harg4 arg5 harg5 arg6 harg6 arg7 harg7 arg8 harg8 arg9 harg9 arg10 harg10 x134.2.1 x140.1 x140.2
  let x142 ← k0_part142 i arg2 harg2 arg3 harg3 arg4 harg4 arg5 harg5 arg6 harg6 arg7 harg7 arg8 harg8 arg9 harg9 arg10 harg10 x134.2.1
  let x143 ← k0_part143 i arg2 harg2 arg3 harg3 arg4 harg4 arg5 harg5 arg6 harg6 arg7 harg7 arg8 harg8 arg9 harg9 arg10 harg10 x134.2.1 x142
  let x144 ← k0_part144 i arg2 harg2 arg3 harg3 arg4 harg4 arg5 harg5 arg6 harg6 arg7 harg7 arg8 harg8 arg9 harg9 arg10 harg10 x134.2.1 x143
  let x145 ← k0_part145 i arg2 harg2 arg3 harg3 arg4 harg4 arg5 harg5 arg6 harg6 arg7 harg7 arg8 harg8 arg9 harg9 arg10 harg10 x134.2.1 x144
  let x146 ← k0_part146 i arg2 harg2 arg3 harg3 arg4 harg4 arg5 harg5 arg6 harg6 arg7 harg7 arg8 harg8 arg9 harg9 arg10 harg10 x134.2.1 x145.1 x145.2
  let x147 ← k0_part147 i arg2 harg2 arg3 harg3 arg4 harg4 arg5 harg5 arg6 harg6 arg7 harg7 arg8 harg8 arg9 harg9 arg10 harg10 x134.2.1 x146.1 x146.2
  let x148 ← k0_part148 i arg2 harg2 arg3 harg3 arg4 harg4 arg5 harg5 arg6 harg6 arg7 harg7 arg8 harg8 arg9 harg9 arg10 harg10 x134.2.1 x147.1 x147.2
  k0_part149 i arg2 harg2 arg3 harg3 arg4 harg4 arg5 harg5 arg6 harg6 arg7 harg7 arg8 harg8 arg9 harg9 arg10 harg10 x134.2.1 x148.1 x148.2
  let x150 ← k0_part150 i arg2 harg2 arg3 harg3 arg4 harg4 arg5 harg5 arg6 harg6 arg7 harg7 arg8 harg8 arg9 harg9 arg10 harg10 x134.2.1
  let x151 ← k0_part151 i arg2 harg2 arg3 harg3 arg4 harg4 arg5 harg5 arg6 harg6 arg7 harg7 arg8 harg8 arg9 harg9 arg10 harg10 x134.1 x134.2.1 x150
  pure (x134.1, x134.2.2.1, x151.1, x151.2.1, x151.2.2)

def cutA1 (k0_t1 : Fin k0_t1_loop.trips) (arg11 v4 : BitVec 32) (v448 : FVec F S8x128 .f32) : Prog (TpuEff nD τ sig (Elt F) Λ₀ .tc) (BitVec 32 × FVec F S8x128 .f32 × FVec F S8x128 .f32) := do
  let x152 ← k0_part152 i arg2 harg2 arg3 harg3 arg4 harg4 arg5 harg5 arg6 harg6 arg7 harg7 arg8 harg8 arg9 harg9 arg10 harg10 k0_t1 arg11 v4 v448
  let x153 ← k0_part153 i arg2 harg2 arg3 harg3 arg4 harg4 arg5 harg5 arg6 harg6 arg7 harg7 arg8 harg8 arg9 harg9 arg10 harg10 k0_t1 x152.1 x152.2.1 x152.2.2
  let x154 ← k0_part154 i arg2 harg2 arg3 harg3 arg4 harg4 arg5 harg5 arg6 harg6 arg7 harg7 arg8 harg8 arg9 harg9 arg10 harg10 k0_t1 x152.1 x153.1 x153.2.1 x153.2.2.1 x153.2.2.2
  let x155 ← k0_part155 i arg2 harg2 arg3 harg3 arg4 harg4 arg5 harg5 arg6 harg6 arg7 harg7 arg8 harg8 arg9 harg9 arg10 harg10 x154.1 x154.2
  let x156 ← k0_part156 i arg2 harg2 arg3 harg3 arg4 harg4 arg5 harg5 arg6 harg6 arg7 harg7 arg8 harg8 arg9 harg9 arg10 harg10 x155.1 x155.2.1 x155.2.2.1 x155.2.2.2
  let x157 ← k0_part157 i arg2 harg2 arg3 harg3 arg4 harg4 arg5 harg5 arg6 harg6 arg7 harg7 arg8 harg8 arg9 harg9 arg10 harg10 x156.1 x156.2.1 x156.2.2.1 x156.2.2.2.1 x156.2.2.2.2
  let x158 ← k0_part158 i arg2 harg2 arg3 harg3 arg4 harg4 arg5 harg5 arg6 harg6 arg7 harg7 arg8 harg8 arg9 harg9 arg10 harg10 x157.1 x157.2
  let x159 ← k0_part159 i arg2 harg2 arg3 harg3 arg4 harg4 arg5 harg5 arg6 harg6 arg7 harg7 arg8 harg8 arg9 harg9 arg10 harg10 x158.1 x158.2.1 x158.2.2.1 x158.2.2.2
  let x160 ← k0_part160 i arg2 harg2 arg3 harg3 arg4 harg4 arg5 harg5 arg6 harg6 arg7 harg7 arg8 harg8 arg9 harg9 arg10 harg10 x159.1 x159.2.1 x159.2.2.1 x159.2.2.2.1 x159.2.2.2.2
  let x161 ← k0_part161 i arg2 harg2 arg3 harg3 arg4 harg4 arg5 harg5 arg6 harg6 arg7 harg7 arg8 harg8 arg9 harg9 arg10 harg10 x160.1 x160.2
  let x162 ← k0_part162 i arg2 harg2 arg3 harg3 arg4 harg4 arg5 harg5 arg6 harg6 arg7 harg7 arg8 harg8 arg9 harg9 arg10 harg10 x161.1 x161.2.1 x161.2.2.1 x161.2.2.2
  let x163 ← k0_part163 i arg2 harg2 arg3 harg3 arg4 harg4 arg5 harg5 arg6 harg6 arg7 harg7 arg8 harg8 arg9 harg9 arg10 harg10 x162.1 x162.2.1 x162.2.2.1 x162.2.2.2.1 x162.2.2.2.2
  pure (x152.1, x163.1, x163.2)

def cutS1 (v1416 v1417 : FVec F S8x128 .f32) : Prog (TpuEff nD τ sig (Elt F) Λ₀ .tc) (FVec F S8x128 .f32 × FVec F S8x128 .f32 × FVec F S8x128 .f32 × FVec F S8x128 .f32 × FVec F S8x128 .f32 × F .f32) := do
  let x164 ← k0_part164 i arg2 harg2 arg3 harg3 arg4 harg4 arg5 harg5 arg6 harg6 arg7 harg7 arg8 harg8 arg9 harg9 arg10 harg10 v1416 v1417
  let x165 ← k0_part165 i arg2 harg2 arg3 harg3 arg4 harg4 arg5 harg5 arg6 harg6 arg7 harg7 arg8 harg8 arg9 harg9 arg10 harg10 x164.2.1 x164.2.2.2
  let x166 ← k0_part166 i arg2 harg2 arg3 harg3 arg4 harg4 arg5 harg5 arg6 harg6 arg7 harg7 arg8 harg8 arg9 harg9 arg10 harg10 x164.2.1 x165
  let x167 ← k0_part167 i arg2 harg2 arg3 harg3 arg4 harg4 arg5 harg5 arg6 harg6 arg7 harg7 arg8 harg8 arg9 harg9 arg10 harg10 x164.2.1 x166.1 x166.2
  let x168 ← k0_part168 i arg2 harg2 arg3 harg3 arg4 harg4 arg5 harg5 arg6 harg6 arg7 harg7 arg8 harg8 arg9 harg9 arg10 harg10 x164.2.1 x167.1 x167.2
  let x169 ← k0_part169 i arg2 harg2 arg3 harg3 arg4 harg4 arg5 harg5 arg6 harg6 arg7 harg7 arg8 harg8 arg9 harg9 arg10 harg10 x164.2.1 x168.1 x168.2
  k0_part170 i arg2 harg2 arg3 harg3 arg4 harg4 arg5 harg5 arg6 harg6 arg7 harg7 arg8 harg8 arg9 harg9 arg10 harg10 x164.2.1 x169.1 x169.2
  let x171 ← k0_part171 i arg2 harg2 arg3 harg3 arg4 harg4 arg5 harg5 arg6 harg6 arg7 harg7 arg8 harg8 arg9 harg9 arg10 harg10 x164.2.1
  let x172 ← k0_part172 i arg2 harg2 arg3 harg3 arg4 harg4 arg5 harg5 arg6 harg6 arg7 harg7 arg8 harg8 arg9 harg9 arg10 harg10 x164.2.1 x171
  let x173 ← k0_part173 i arg2 harg2 arg3 harg3 arg4 harg4 arg5 harg5 arg6 harg6 arg7 harg7 arg8 harg8 arg9 harg9 arg10 harg10 x164.2.1 x172
  let x174 ← k0_part174 i arg2 harg2 arg3 harg3 arg4 harg4 arg5 harg5 arg6 harg6 arg7 harg7 arg8 harg8 arg9 harg9 arg10 harg10 x164.2.1 x173
  let x175 ← k0_part175 i arg2 harg2 arg3 harg3 arg4 harg4 arg5 harg5 arg6 harg6 arg7 harg7 arg8 harg8 arg9 harg9 arg10 harg10 x164.2.1 x174.1 x174.2
  let x176 ← k0_part176 i arg2 harg2 arg3 harg3 arg4 harg4 arg5 harg5 arg6 harg6 arg7 harg7 arg8 harg8 arg9 harg9 arg10 harg10 x164.2.1 x175.1 x175.2
  let x177 ← k0_part177 i arg2 harg2 arg3 harg3 arg4 harg4 arg5 harg5 arg6 harg6 arg7 harg7 arg8 harg8 arg9 harg9 arg10 harg10 x164.2.1 x176.1 x176.2
  k0_part178 i arg2 harg2 arg3 harg3 arg4 harg4 arg5 harg5 arg6 harg6 arg7 harg7 arg8 harg8 arg9 harg9 arg10 harg10 x164.2.1 x177.1 x177.2
  let x179 ← k0_part179 i arg2 harg2 arg3 harg3 arg4 harg4 arg5 harg5 arg6 harg6 arg7 harg7 arg8 harg8 arg9 harg9 arg10 harg10 x164.2.1
  let x180 ← k0_part180 i arg2 harg2 arg3 harg3 arg4 harg4 arg5 harg5 arg6 harg6 arg7 harg7 arg8 harg8 arg9 harg9 arg10 harg10 x164.2.1 x179
  let x181 ← k0_part181 i arg2 harg2 arg3 harg3 arg4 harg4 arg5 harg5 arg6 harg6 arg7 harg7 arg8 harg8 arg9 harg9 arg10 harg10 x164.1 x164.2.1 x180
  pure (x164.1, x164.2.2.1, x181.1, x181.2.1, x181.2.2.1, x181.2.2.2)

def cutT (k0_t1 : Fin k0_t1_loop.trips) (v4 : BitVec 32) (v453 v969 v978 v983 : FVec F S8x128 .f32) (v991 : BitVec 32) (v1435 v1440 v1956 v1965 v1968 : FVec F S8x128 .f32)
    (cst_1180 : F .f32) : Prog (TpuEff nD τ sig (Elt F) Λ₀ .tc) PUnit := do
  let x249 ← k0_part249 i arg2 harg2 arg3 harg3 arg4 harg4 arg5 harg5 arg6 harg6 arg7 harg7 arg8 harg8 arg9 harg9 arg10 harg10 k0_t1 v4 v453 v969 v978 v983 v991 v1435 v1440 v1965 v1968 cst_1180
  let x250 ← k0_part250 i arg2 harg2 arg3 harg3 arg4 harg4 arg5 harg5 arg6 harg6 arg7 harg7 arg8 harg8 arg9 harg9 arg10 harg10 k0_t1 v991 v1440 v1956 x249.1 x249.2.1 x249.2.2.1 x249.2.2.2.1 x249.2.2.2.2.1 x249.2.2.2.2.2
  let v4744 : Vec F S1x8x128 .f32 ← Prog.lift (.load arg7 (Rect.unit (s := S1x8x1024) (k0_off9 k0_t1 1#32) S1x8x128.size (k0_off9_inb k0_t1 1)).toLoadRect (View.loadsAt_vmem h_S1x8x128))
  Prog.lift (.store arg7 (Rect.unit (s := S1x8x1024) (k0_off9 k0_t1 1#32) S1x8x128.size (k0_off9_inb k0_t1 1)) (k0_pay1 x250) Finset.univ (View.stores_vmem_bits_univ h_S1x8x128 rfl) (.inl rfl))
  pure ⟨⟩

set_option maxHeartbeats 0 in
theorem part248_eq (c0_i32 c1_i32 : BitVec 32) (k0_t1 : Fin k0_t1_loop.trips) :
    k0_part248 (F := F) i arg2 harg2 arg3 harg3 arg4 harg4 arg5 harg5 arg6 harg6 arg7 harg7 arg8 harg8 arg9 harg9 arg10 harg10 c0_i32 c1_i32 k0_t1 = (do
    let x122 ← k0_part122 i arg2 harg2 arg3 harg3 arg4 harg4 arg5 harg5 arg6 harg6 arg7 harg7 arg8 harg8 arg9 harg9 arg10 harg10 c0_i32 c1_i32 k0_t1
    let x123 ← k0_part123 i arg2 harg2 arg3 harg3 arg4 harg4 arg5 harg5 arg6 harg6 arg7 harg7 arg8 harg8 arg9 harg9 arg10 harg10 k0_t1 x122.2.1 x122.2.2.1 x122.2.2.2.1 x122.2.2.2.2
    let x124 ← k0_part124 i arg2 harg2 arg3 harg3 arg4 harg4 arg5 harg5 arg6 harg6 arg7 harg7 arg8 harg8 arg9 harg9 arg10 harg10 k0_t1 x122.2.1 x123.1 x123.2
    let x125 ← k0_part125 i arg2 harg2 arg3 harg3 arg4 harg4 arg5 harg5 arg6 harg6 arg7 harg7 arg8 harg8 arg9 harg9 arg10 harg10 x124.1 x124.2.1 x124.2.2
    let x126 ← k0_part126 i arg2 harg2 arg3 harg3 arg4 harg4 arg5 harg5 arg6 harg6 arg7 harg7 arg8 harg8 arg9 harg9 arg10 harg10 x125.1 x125.2.1 x125.2.2.1 x125.2.2.2
    let x127 ← k0_part127 i arg2 harg2 arg3 harg3 arg4 harg4 arg5 harg5 arg6 harg6 arg7 harg7 arg8 harg8 arg9 harg9 arg10 harg10 x126.1 x126.2.1 x126.2.2.1 x126.2.2.2
    let x128 ← k0_part128 i arg2 harg2 arg3 harg3 arg4 harg4 arg5 harg5 arg6 harg6 arg7 harg7 arg8 harg8 arg9 harg9 arg10 harg10 x127.1 x127.2.1 x127.2.2
    let x129 ← k0_part129 i arg2 harg2 arg3 harg3 arg4 harg4 arg5 harg5 arg6 harg6 arg7 harg7 arg8 harg8 arg9 harg9 arg10 harg10 x128.1 x128.2.1 x128.2.2.1 x128.2.2.2
    let x130 ← k0_part130 i arg2 harg2 arg3 harg3 arg4 harg4 arg5 harg5 arg6 harg6 arg7 harg7 arg8 harg8 arg9 harg9 arg10 harg10 x129.1 x129.2.1 x129.2.2.1 x129.2.2.2
    let x131 ← k0_part131 i arg2 harg2 arg3 harg3 arg4 harg4 arg5 harg5 arg6 harg6 arg7 harg7 arg8 harg8 arg9 harg9 arg10 harg10 x130.1 x130.2.1 x130.2.2
    let x132 ← k0_part132 i arg2 harg2 arg3 harg3 arg4 harg4 arg5 harg5 arg6 harg6 arg7 harg7 arg8 harg8 arg9 harg9 arg10 harg10 x131.1 x131.2.1 x131.2.2.1 x131.2.2.2
    let x133 ← k0_part133 i arg2 harg2 arg3 harg3 arg4 harg4 arg5 harg5 arg6 harg6 arg7 harg7 arg8 harg8 arg9 harg9 arg10 harg10 x132.1 x132.2.1 x132.2.2.1 x132.2.2.2
    let x134 ← k0_part134 i arg2 harg2 arg3 harg3 arg4 harg4 arg5 harg5 arg6 harg6 arg7 harg7 arg8 harg8 arg9 harg9 arg10 harg10 x133.1 x133.2.1 x133.2.2
    let x135 ← k0_part135 i arg2 harg2 arg3 harg3 arg4 harg4 arg5 harg5 arg6 harg6 arg7 harg7 arg8 harg8 arg9 harg9 arg10 harg10 x134.2.1 x134.2.2.2
    let x136 ← k0_part136 i arg2 harg2 arg3 harg3 arg4 harg4 arg5 harg5 arg6 harg6 arg7 harg7 arg8 harg8 arg9 harg9 arg10 harg10 x134.2.1 x135
    let x137 ← k0_part137 i arg2 harg2 arg3 harg3 arg4 harg4 arg5 harg5 arg6 harg6 arg7 harg7 arg8 harg8 arg9 harg9 arg10 harg10 x134.2.1 x136
    let x138 ← k0_part138 i arg2 harg2 arg3 harg3 arg4 harg4 arg5 harg5 arg6 harg6 arg7 harg7 arg8 harg8 arg9 harg9 arg10 harg10 x134.2.1 x137.1 x137.2
    let x139 ← k0_part139 i arg2 harg2 arg3 harg3 arg4 harg4 arg5 harg5 arg6 harg6 arg7 harg7 arg8 harg8 arg9 harg9 arg10 harg10 x134.2.1 x138.1 x138.2
    let x140 ← k0_part140 i arg2 harg2 arg3 harg3 arg4 harg4 arg5 harg5 arg6 harg6 arg7 harg7 arg8 harg8 arg9 harg9 arg10 harg10 x134.2.1 x139.1 x139.2
    k0_part141 i arg2 harg2 arg3 harg3 arg4 harg4 arg5 harg5 arg6 harg6 arg7 harg7 arg8 harg8 arg9 harg9 arg10 harg10 x134.2.1 x140.1 x140.2
    let x142 ← k0_part142 i arg2 harg2 arg3 harg3 arg4 harg4 arg5 harg5 arg6 harg6 arg7 harg7 arg8 harg8 arg9 harg9 arg10 harg10 x134.2.1
    let x143 ← k0_part143 i arg2 harg2 arg3 harg3 arg4 harg4 arg5 harg5 arg6 harg6 arg7 harg7 arg8 harg8 arg9 harg9 arg10 harg10 x134.2.1 x142
    let x144 ← k0_part144 i arg2 harg2 arg3 harg3 arg4 harg4 arg5 harg5 arg6 harg6 arg7 harg7 arg8 harg8 arg9 harg9 arg10 harg10 x134.2.1 x143
    let x145 ← k0_part145 i arg2 harg2 arg3 harg3 arg4 harg4 arg5 harg5 arg6 harg6 arg7 harg7 arg8 harg8 arg9 harg9 arg10 harg10 x134.2.1 x144
    let x146 ← k0_part146 i arg2 harg2 arg3 harg3 arg4 harg4 arg5 harg5 arg6 harg6 arg7 harg7 arg8 harg8 arg9 harg9 arg10 harg10 x134.2.1 x145.1 x145.2
    let x147 ← k0_part147 i arg2 harg2 arg3 harg3 arg4 harg4 arg5 harg5 arg6 harg6 arg7 harg7 arg8 harg8 arg9 harg9 arg10 harg10 x134.2.1 x146.1 x146.2
    let x148 ← k0_part148 i arg2 harg2 arg3 harg3 arg4 harg4 arg5 harg5 arg6 harg6 arg7 harg7 arg8 harg8 arg9 harg9 arg10 harg10 x134.2.1 x147.1 x147.2
    k0_part149 i arg2 harg2 arg3 harg3 arg4 harg4 arg5 harg5 arg6 harg6 arg7 harg7 arg8 harg8 arg9 harg9 arg10 harg10 x134.2.1 x148.1 x148.2
    let x150 ← k0_part150 i arg2 harg2 arg3 harg3 arg4 harg4 arg5 harg5 arg6 harg6 arg7 harg7 arg8 harg8 arg9 harg9 arg10 harg10 x134.2.1
    let x151 ← k0_part151 i arg2 harg2 arg3 harg3 arg4 harg4 arg5 harg5 arg6 harg6 arg7 harg7 arg8 harg8 arg9 harg9 arg10 harg10 x134.1 x134.2.1 x150
    let x152 ← k0_part152 i arg2 harg2 arg3 harg3 arg4 harg4 arg5 harg5 arg6 harg6 arg7 harg7 arg8 harg8 arg9 harg9 arg10 harg10 k0_t1 x122.1 x122.2.1 x134.1
    let x153 ← k0_part153 i arg2 harg2 arg3 harg3 arg4 harg4 arg5 harg5 arg6 harg6 arg7 harg7 arg8 harg8 arg9 harg9 arg10 harg10 k0_t1 x152.1 x152.2.1 x152.2.2
    let x154 ← k0_part154 i arg2 harg2 arg3 harg3 arg4 harg4 arg5 harg5 arg6 harg6 arg7 harg7 arg8 harg8 arg9 harg9 arg10 harg10 k0_t1 x152.1 x153.1 x153.2.1 x153.2.2.1 x153.2.2.2
    let x155 ← k0_part155 i arg2 harg2 arg3 harg3 arg4 harg4 arg5 harg5 arg6 harg6 arg7 harg7 arg8 harg8 arg9 harg9 arg10 harg10 x154.1 x154.2
    let x156 ← k0_part156 i arg2 harg2 arg3 harg3 arg4 harg4 arg5 harg5 arg6 harg6 arg7 harg7 arg8 harg8 arg9 harg9 arg10 harg10 x155.1 x155.2.1 x155.2.2.1 x155.2.2.2
    let x157 ← k0_part157 i arg2 harg2 arg3 harg3 arg4 harg4 arg5 harg5 arg6 harg6 arg7 harg7 arg8 harg8 arg9 harg9 arg10 harg10 x156.1 x156.2.1 x156.2.2.1 x156.2.2.2.1 x156.2.2.2.2
    let x158 ← k0_part158 i arg2 harg2 arg3 harg3 arg4 harg4 arg5 harg5 arg6 harg6 arg7 harg7 arg8 harg8 arg9 harg9 arg10 harg10 x157.1 x157.2
    let x159 ← k0_part159 i arg2 harg2 arg3 harg3 arg4 harg4 arg5 harg5 arg6 harg6 arg7 harg7 arg8 harg8 arg9 harg9 arg10 harg10 x158.1 x158.2.1 x158.2.2.1 x158.2.2.2
    let x160 ← k0_part160 i arg2 harg2 arg3 harg3 arg4 harg4 arg5 harg5 arg6 harg6 arg7 harg7 arg8 harg8 arg9 harg9 arg10 harg10 x159.1 x159.2.1 x159.2.2.1 x159.2.2.2.1 x159.2.2.2.2
    let x161 ← k0_part161 i arg2 harg2 arg3 harg3 arg4 harg4 arg5 harg5 arg6 harg6 arg7 harg7 arg8 harg8 arg9 harg9 arg10 harg10 x160.1 x160.2
    let x162 ← k0_part162 i arg2 harg2 arg3 harg3 arg4 harg4 arg5 harg5 arg6 harg6 arg7 harg7 arg8 harg8 arg9 harg9 arg10 harg10 x161.1 x161.2.1 x161.2.2.1 x161.2.2.2
    let x163 ← k0_part163 i arg2 harg2 arg3 harg3 arg4 harg4 arg5 harg5 arg6 harg6 arg7 harg7 arg8 harg8 arg9 harg9 arg10 harg10 x162.1 x162.2.1 x162.2.2.1 x162.2.2.2.1 x162.2.2.2.2
    let x164 ← k0_part164 i arg2 harg2 arg3 harg3 arg4 harg4 arg5 harg5 arg6 harg6 arg7 harg7 arg8 harg8 arg9 harg9 arg10 harg10 x163.1 x163.2
    let x165 ← k0_part165 i arg2 harg2 arg3 harg3 arg4 harg4 arg5 harg5 arg6 harg6 arg7 harg7 arg8 harg8 arg9 harg9 arg10 harg10 x164.2.1 x164.2.2.2
    let x166 ← k0_part166 i arg2 harg2 arg3 harg3 arg4 harg4 arg5 harg5 arg6 harg6 arg7 harg7 arg8 harg8 arg9 harg9 arg10 harg10 x164.2.1 x165
    let x167 ← k0_part167 i arg2 harg2 arg3 harg3 arg4 harg4 arg5 harg5 arg6 harg6 arg7 harg7 arg8 harg8 arg9 harg9 arg10 harg10 x164.2.1 x166.1 x166.2
    let x168 ← k0_part168 i arg2 harg2 arg3 harg3 arg4 harg4 arg5 harg5 arg6 harg6 arg7 harg7 arg8 harg8 arg9 harg9 arg10 harg10 x164.2.1 x167.1 x167.2
    let x169 ← k0_part169 i arg2 harg2 arg3 harg3 arg4 harg4 arg5 harg5 arg6 harg6 arg7 harg7 arg8 harg8 arg9 harg9 arg10 harg10 x164.2.1 x168.1 x168.2
    k0_part170 i arg2 harg2 arg3 harg3 arg4 harg4 arg5 harg5 arg6 harg6 arg7 harg7 arg8 harg8 arg9 harg9 arg10 harg10 x164.2.1 x169.1 x169.2
    let x171 ← k0_part171 i arg2 harg2 arg3 harg3 arg4 harg4 arg5 harg5 arg6 harg6 arg7 harg7 arg8 harg8 arg9 harg9 arg10 harg10 x164.2.1
    let x172 ← k0_part172 i arg2 harg2 arg3 harg3 arg4 harg4 arg5 harg5 arg6 harg6 arg7 harg7 arg8 harg8 arg9 harg9 arg10 harg10 x164.2.1 x171
    let x173 ← k0_part173 i arg2 harg2 arg3 harg3 arg4 harg4 arg5 harg5 arg6 harg6 arg7 harg7 arg8 harg8 arg9 harg9 arg10 harg10 x164.2.1 x172
    let x174 ← k0_part174 i arg2 harg2 arg3 harg3 arg4 harg4 arg5 harg5 arg6 harg6 arg7 harg7 arg8 harg8 arg9 harg9 arg10 harg10 x164.2.1 x173
    let x175 ← k0_part175 i arg2 harg2 arg3 harg3 arg4 harg4 arg5 harg5 arg6 harg6 arg7 harg7 arg8 harg8 arg9 harg9 arg10 harg10 x164.2.1 x174.1 x174.2
    let x176 ← k0_part176 i arg2 harg2 arg3 harg3 arg4 harg4 arg5 harg5 arg6 harg6 arg7 harg7 arg8 harg8 arg9 harg9 arg10 harg10 x164.2.1 x175.1 x175.2
    let x177 ← k0_part177 i arg2 harg2 arg3 harg3 arg4 harg4 arg5 harg5 arg6 harg6 arg7 harg7 arg8 harg8 arg9 harg9 arg10 harg10 x164.2.1 x176.1 x176.2
    k0_part178 i arg2 harg2 arg3 harg3 arg4 harg4 arg5 harg5 arg6 harg6 arg7 harg7 arg8 harg8 arg9 harg9 arg10 harg10 x164.2.1 x177.1 x177.2
    let x179 ← k0_part179 i arg2 harg2 arg3 harg3 arg4 harg4 arg5 harg5 arg6 harg6 arg7 harg7 arg8 harg8 arg9 harg9 arg10 harg10 x164.2.1
    let x180 ← k0_part180 i arg2 harg2 arg3 harg3 arg4 harg4 arg5 harg5 arg6 harg6 arg7 harg7 arg8 harg8 arg9 harg9 arg10 harg10 x164.2.1 x179
    let x181 ← k0_part181 i arg2 harg2 arg3 harg3 arg4 harg4 arg5 harg5 arg6 harg6 arg7 harg7 arg8 harg8 arg9 harg9 arg10 harg10 x164.1 x164.2.1 x180
    pure ⟨x122.2.1, x134.2.2.1, x151.1, x151.2.1, x151.2.2, x152.1, x164.1, x164.2.2.1, x181.1, x181.2.1, x181.2.2.1, x181.2.2.2⟩) := by
  rw [k0_part248_eq_skeleton]
  unfold k0_part248_skel
  repeat (refine bind_congr fun x => ?_; try split; try dsimp only)

end Cert.KernelIdeal.Hand

end
-- ==== Proof.IdealBodyCut.lean ====
/-
  The printed body of a trip of the outer loop is its pieces in sequence.
-/
module

public import proofs.«01_k».proof.Proof.IdealCuts

@[expose] public section

set_option maxRecDepth 65536

noncomputable section

namespace Cert.KernelIdeal.Hand

open Cert.KernelIdeal.Gen
open Idealize.ShloMosaic Idealize.SL.Sem

variable {F : FTy → Type} [FloatOps F] [Named F]
variable (i : grid0.Coords) (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)

set_option maxHeartbeats 0 in
theorem k0_t1_body_cut (t : Fin k0_t1_loop.trips) :
    k0_t1_body (F := F) i arg2 harg2 arg3 harg3 arg4 harg4 arg5 harg5 arg6 harg6 arg7 harg7 arg8 harg8 arg9 harg9 arg10 harg10 t ⟨⟩ = (do
      let a ← cutA0 i arg2 harg2 arg3 harg3 arg4 harg4 arg5 harg5 arg6 harg6 arg7 harg7 arg8 harg8 arg9 harg9 arg10 harg10 0#32 1#32 t
      let b ← cutS0 i arg2 harg2 arg3 harg3 arg4 harg4 arg5 harg5 arg6 harg6 arg7 harg7 arg8 harg8 arg9 harg9 arg10 harg10 a.2.2.1 a.2.2.2.1 a.2.2.2.2
      let a' ← cutA1 i arg2 harg2 arg3 harg3 arg4 harg4 arg5 harg5 arg6 harg6 arg7 harg7 arg8 harg8 arg9 harg9 arg10 harg10 t a.1 a.2.1 b.1
      let b' ← cutS1 i arg2 harg2 arg3 harg3 arg4 harg4 arg5 harg5 arg6 harg6 arg7 harg7 arg8 harg8 arg9 harg9 arg10 harg10 a'.2.1 a'.2.2
      cutT i arg2 harg2 arg3 harg3 arg4 harg4 arg5 harg5 arg6 harg6 arg7 harg7 arg8 harg8 arg9 harg9 arg10 harg10 t a.2.1 b.2.1 b.2.2.1 b.2.2.2.1 b.2.2.2.2 a'.1 b'.1 b'.2.1 b'.2.2.1 b'.2.2.2.1 b'.2.2.2.2.1 b'.2.2.2.2.2) := by
  unfold k0_t1_body cutA0 cutS0 cutA1 cutS1
  rw [part248_eq]
  simp only [bind_assoc, pure_bind]
  rfl

end Cert.KernelIdeal.Hand

end
-- ==== Proof.IdealEqFill.lean ====
/-
  The printed pieces that fill a tile are the programs of `IdealProgram`, by unfolding.
-/
module

public import proofs.«01_k».proof.Proof.IdealCuts
public import proofs.«01_k».proof.Proof.IdealProgram

@[expose] public section

set_option maxRecDepth 65536

noncomputable section

namespace Cert.KernelIdeal.Hand

open Cert.KernelIdeal.Gen
open Idealize.ShloMosaic Idealize.SL.Sem

variable {F : FTy → Type} [FloatOps F] [Named F]
variable (i : grid0.Coords) (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)

/-- The two words the first piece hands on; no later piece uses their values. -/
def loopWord (t : Fin k0_t1_loop.trips) : BitVec 32 := Scf.iv 0#32 1#32 t
def laneWord (w : BitVec 32) (k : BitVec 32) : BitVec 32 := Scalar.muli (Scalar.addi (Scalar.muli w 2#32) k) 128#32

set_option maxHeartbeats 0 in
theorem cutA0_eq (t : Fin k0_t1_loop.trips) : cutA0 (F := F) i arg2 harg2 arg3 harg3 arg4 harg4 arg5 harg5 arg6 harg6 arg7 harg7 arg8 harg8 arg9 harg9 arg10 harg10 0#32 1#32 t = (do
    let a ← fillTile arg2 arg8 harg8 t 0 (by omega)
    let w ← loadPair arg8 0 31 (by omega) (by omega)
    pure (loopWord t, laneWord (loopWord t) 0#32, a.1, a.2, w)) := by rfl

set_option maxHeartbeats 0 in
theorem cutA1_eq (t : Fin k0_t1_loop.trips) (v v4 : BitVec 32) (v448 : FVec F S8x128 .f32) : cutA1 (F := F) i arg2 harg2 arg3 harg3 arg4 harg4 arg5 harg5 arg6 harg6 arg7 harg7 arg8 harg8 arg9 harg9 arg10 harg10 t v v4 v448 = (do
    storeStat arg4 t 0 (by omega) v448
    let a ← fillTile arg2 arg8 harg8 t 1 (by omega)
    pure (laneWord v 1#32, a.1, a.2)) := by rfl

end Cert.KernelIdeal.Hand

end
-- ==== Proof.IdealEqScale.lean ====
/-
  The printed pieces that scale a tile are the programs of `IdealProgram`, by unfolding.
-/
module

public import proofs.«01_k».proof.Proof.IdealCuts
public import proofs.«01_k».proof.Proof.IdealProgram

@[expose] public section

set_option maxRecDepth 65536

noncomputable section

namespace Cert.KernelIdeal.Hand

open Cert.KernelIdeal.Gen
open Idealize.ShloMosaic Idealize.SL.Sem

variable {F : FTy → Type} [FloatOps F] [Named F]
variable (i : grid0.Coords) (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)

set_option maxHeartbeats 0 in
theorem cutS0_eq (a b : FVec F S8x128 .f32) (w : Vec F S1x8x2x128 .bf16) : cutS0 (F := F) i arg2 harg2 arg3 harg3 arg4 harg4 arg5 harg5 arg6 harg6 arg7 harg7 arg8 harg8 arg9 harg9 arg10 harg10 a b w = (do
    let m := minMaxStep w (a, b)
    scaleTile arg8 arg9 0 (by omega) m
    pure (scaleOf m, startOf m, log2 (scaleOf m), cutOf (scaleOf m), stepOf (scaleOf m))) := by rfl

set_option maxHeartbeats 0 in
theorem cutS1_eq (a b : FVec F S8x128 .f32) : cutS1 (F := F) i arg2 harg2 arg3 harg3 arg4 harg4 arg5 harg5 arg6 harg6 arg7 harg7 arg8 harg8 arg9 harg9 arg10 harg10 a b = (do
    let w ← loadPair arg8 1 31 (by omega) (by omega)
    let m := minMaxStep w (a, b)
    scaleTile arg8 arg9 1 (by omega) m
    pure (scaleOf m, startOf m, log2 (scaleOf m), cutOf (scaleOf m), preStepOf (scaleOf m), stepInit)) := by rfl

end Cert.KernelIdeal.Hand

end
-- ==== Proof.IdealEqFit.lean ====
/-
  The printed piece that fits and stores is the program of `IdealProgram`, by unfolding.
-/
module

public import proofs.«01_k».proof.Proof.IdealCuts
public import proofs.«01_k».proof.Proof.IdealProgram

@[expose] public section

set_option maxRecDepth 65536

noncomputable section

namespace Cert.KernelIdeal.Hand

open Cert.KernelIdeal.Gen
open Idealize.ShloMosaic Idealize.SL.Sem

variable {F : FTy → Type} [FloatOps F] [Named F]
variable (i : grid0.Coords) (arg2 : Memref sig .tc .vmem S1x512x1024 .bf16) (harg2 : arg2.IsWhole) (arg3 : Memref sig .tc .vmem S1x256x1024 .i8) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S2x320x2x128 .bf16) (harg8 : arg8.IsWhole) (arg9 : Memref sig .tc .vmem S2x64x8x128 .f32) (harg9 : arg9.IsWhole) (arg10 : Memref sig .tc .vmem S2x64x128 .i32) (harg10 : arg10.IsWhole)

theorem part182_eq (t : Fin k0_t1_loop.trips) (v453 v978 v983 : FVec F S8x128 .f32) (v991 : BitVec 32)
    (v1435 v1440 v1965 v1968 : FVec F S8x128 .f32) (c : F .f32) :
    k0_part182 i arg2 harg2 arg3 harg3 arg4 harg4 arg5 harg5 arg6 harg6 arg7 harg7 arg8 harg8 arg9 harg9 arg10 harg10 t v453 v978 v983 v991 v1435 v1440 v1965 v1968 c = (do
      storeStat arg4 t 1 (by omega) v1435
      let f ← Scf.Loop.for k0_t2_loop k0_t2_ok (v453, v978, v983, v1440, v1965, mulf v1968 (broadcast S8x128 c))
         (k0_t2_body i arg2 harg2 arg3 harg3 arg4 harg4 arg5 harg5 arg6 harg6 arg7 harg7 arg8 harg8 arg9 harg9 arg10 harg10 t v453 v978 v983 v991 v1435 v1440 v1965 v1968 c)
      let r0 ← loadRow arg9 0 0 (by omega) (by omega)
      let r1 ← loadRow arg9 0 1 (by omega) (by omega)
      pure ⟨f.1, f.2.2.2.1, k0_pay856 f.1 r0, k0_pay857 f.1 r0, k0_pay859 f.1 r1, k0_pay860 f.1 r1⟩) := by rfl

set_option maxHeartbeats 0 in
theorem cutT_eq (t : Fin k0_t1_loop.trips) (v4 : BitVec 32) (v453 v969 v978 v983 : FVec F S8x128 .f32) (v991 : BitVec 32)
    (v1435 v1440 v1956 v1965 v1968 : FVec F S8x128 .f32) (c : F .f32) :
    cutT (F := F) i arg2 harg2 arg3 harg3 arg4 harg4 arg5 harg5 arg6 harg6 arg7 harg7 arg8 harg8 arg9 harg9 arg10 harg10 t v4 v453 v969 v978 v983 v991 v1435 v1440 v1956 v1965 v1968 c
      = fitTiles i arg2 harg2 arg3 harg3 arg4 harg4 arg5 harg5 arg6 harg6 arg7 harg7 arg8 harg8 arg9 harg9 arg10 harg10 t v991 v453 v969 v978 v983 v1435 v1440 v1956 v1965 v1968 c := by
  unfold cutT fitTiles
  rw [k0_part249_eq_skeleton]
  unfold k0_part249_skel
  rw [part182_eq]
  simp only [bind_assoc, pure_bind]
  refine bind_congr fun _ => bind_congr fun f => ?_
  rfl

end Cert.KernelIdeal.Hand

end
-- ==== Proof.IdealTrip.lean ====
/-
  The printed trip of the outer loop, and the loop: the results of the block's columns.
-/
module

public import proofs.«01_k».proof.Proof.IdealTripSpec
public import proofs.«01_k».proof.Proof.IdealBodyCut
public import proofs.«01_k».proof.Proof.IdealEqFill
public import proofs.«01_k».proof.Proof.IdealEqScale
public import proofs.«01_k».proof.Proof.IdealEqFit

@[expose] public section

set_option maxRecDepth 16384

noncomputable section

namespace Cert.KernelIdeal.Hand

open Cert.KernelIdeal.Gen
open Idealize.ShloMosaic Idealize.ShloMosaic.ValueIdx Idealize.SL.Sem

variable {R : Refs} {c : Dev nD} {σ : Mem}

/-- A column of a tile's index, at a group and column of the block. -/
theorem exists_lane (t : Fin k0_t1_loop.trips) (g : Fin 8) (l : Fin 1024) (h0 : 256 * t.val ≤ l.val) (h1 : l.val < 256 * (t.val + 1)) :
    ∃ (k : Fin 2) (y : S8x128.Idx), grp y = g ∧ laneAt t k y = l := by
  refine ⟨⟨(l.val - 256 * t.val) / 128, by omega⟩, ix2 g ⟨(l.val - 256 * t.val) % 128, Nat.mod_lt _ (by decide)⟩, rfl, Fin.ext ?_⟩
  show lane t ((l.val - 256 * t.val) / 128) + (l.val - 256 * t.val) % 128 = l.val
  rw [lane_eq t _ (by omega)]
  omega

/-- Two tiles' statistics extend a block's statistics from `256 t` columns to `256 (t + 1)`. -/
theorem stat_trip (t : Fin k0_t1_loop.trips) (f : Fin 8 → Fin 1024 → EReal) {s0 s1 s2 : Vec Ideal S1x8x1024 .f32}
    (h : ∀ g l, l.val < 256 * t.val → statAt s0 g l = f g l)
    (h1 : StatPut t 0 (fun y => f (grp y) (laneAt t 0 y)) s0 s1) (h2 : StatPut t 1 (fun y => f (grp y) (laneAt t 1 y)) s1 s2) :
    ∀ g l, l.val < 256 * (t.val + 1) → statAt s2 g l = f g l := by
  intro g l hl
  have e0 : lane t (0 : Fin 2).val = 256 * t.val := lane_eq t 0 (by omega)
  have e1 : lane t (1 : Fin 2).val = 256 * t.val + 128 := lane_eq t 1 (by omega)
  by_cases ho : l.val < 256 * t.val
  · rw [h2.2 g l (.inl (by omega)), h1.2 g l (.inl (by omega)), h g l ho]
  · obtain ⟨k, y, rfl, rfl⟩ := exists_lane t g l (by omega) hl
    obtain rfl | rfl : k = 0 ∨ k = 1 := by omega
    · rw [h2.2 _ _ (.inl (by show lane t (0 : Fin 2).val + (col y).val < _; have := (col y).isLt; omega)), h1.1 y]
    · exact h2.1 y

theorem code_trip (t : Fin k0_t1_loop.trips) (f : Fin 8 → Fin 1024 → ℕ → EReal) {s0 s1 s2 : Vec Ideal S1x256x1024 .i8}
    (h : ∀ g l j (hj : j < 8) i (hi : i < 4), l.val < 256 * t.val →
      codeAt s0 ⟨32 * g.val + 4 * j + i, by omega⟩ l = byteOf (gWord (f g l) j) i)
    (h1 : CodesPut t 0 (fun y => f (grp y) (laneAt t 0 y)) s0 s1) (h2 : CodesPut t 1 (fun y => f (grp y) (laneAt t 1 y)) s1 s2) :
    ∀ g l j (hj : j < 8) i (hi : i < 4), l.val < 256 * (t.val + 1) →
      codeAt s2 ⟨32 * g.val + 4 * j + i, by omega⟩ l = byteOf (gWord (f g l) j) i := by
  intro g l j hj i hi hl
  have e0 : lane t (0 : Fin 2).val = 256 * t.val := lane_eq t 0 (by omega)
  have e1 : lane t (1 : Fin 2).val = 256 * t.val + 128 := lane_eq t 1 (by omega)
  by_cases ho : l.val < 256 * t.val
  · rw [h2.2 _ l (.inl (by omega)), h1.2 _ l (.inl (by omega)), h g l j hj i hi ho]
  · obtain ⟨k, y, rfl, rfl⟩ := exists_lane t g l (by omega) hl
    obtain rfl | rfl : k = 0 ∨ k = 1 := by omega
    · rw [h2.2 _ _ (.inl (by show lane t (0 : Fin 2).val + (col y).val < _; have := (col y).isLt; omega)), h1.1 y j hj i hi]
    · exact h2.1 y j hj i hi

/-- The results of the first `n` columns of the block `x`. -/
structure Done (x : Vec Ideal S1x512x1024 .bf16) (n : ℕ) (σ : Mem) : Prop where
  hx : σ.x = x
  s : ∀ g l, l.val < n → statAt σ.s g l = gS (colX x g l)
  z : ∀ g l, l.val < n → statAt σ.z g l = gZ (colX x g l)
  err : ∀ g l, l.val < n → statAt σ.err g l = gErr (colX x g l)
  shift : ∀ g l, l.val < n → statAt σ.shift g l = gShift (colX x g l)
  codes : ∀ (g : Fin 8) l j (hj : j < 8) i (hi : i < 4), l.val < n →
    codeAt σ.codes ⟨32 * g.val + 4 * j + i, by omega⟩ l = byteOf (gWord (colX x g l) j) i

theorem trip_spec (i : grid0.Coords) (harg2 : R.arg2.IsWhole) (harg3 : R.arg3.IsWhole) (harg4 : R.arg4.IsWhole) (harg5 : R.arg5.IsWhole)
    (harg6 : R.arg6.IsWhole) (harg7 : R.arg7.IsWhole) (harg8 : R.arg8.IsWhole) (harg9 : R.arg9.IsWhole) (harg10 : R.arg10.IsWhole)
    (x : Vec Ideal S1x512x1024 .bf16) (t : Fin k0_t1_loop.trips) (h : Done x (256 * t.val) σ) :
    Runs R c σ (k0_t1_body i R.arg2 harg2 R.arg3 harg3 R.arg4 harg4 R.arg5 harg5 R.arg6 harg6 R.arg7 harg7 R.arg8 harg8 R.arg9 harg9 R.arg10 harg10 t ⟨⟩)
      (fun _ σ' => Done x (256 * (t.val + 1)) σ') := by
  obtain rfl := h.hx
  rw [k0_t1_body_cut, cutA0_eq]
  simp only [bind_assoc, pure_bind]
  refine (fillTile_spec harg8 t 0 (by omega)).bind ?_
  rintro a _ ⟨w0, rfl, hw0, ha⟩
  refine (loadPair_spec 0 31 (by omega) (by omega)).bind ?_
  rintro p _ ⟨rfl, hp⟩
  have hx0 : Extremes (tileCol t 0 σ.x) (minMaxStep p a) := by
    intro y; have := ha.step hp y; rw [show rowW w0 ⟨0, _⟩ y = _ from hw0 y] at this; exact this
  rw [cutS0_eq]
  simp only [bind_assoc, pure_bind]
  refine (scaleTile_spec (σ := { σ with w := w0 }) t 0 (by omega) _ hw0 hx0).bind ?_
  rintro _ _ ⟨u0, rfl, hu0, -⟩
  rw [cutA1_eq]
  simp only [bind_assoc, pure_bind]
  refine (storeStat_spec (slot4 R c) t 0 (by omega) _).bind ?_
  rintro _ _ ⟨s1, rfl, hs1⟩
  refine (fillTile_spec harg8 t 1 (by omega)).bind ?_
  rintro b _ ⟨w1, rfl, hw1, hb⟩
  rw [cutS1_eq]
  simp only [bind_assoc, pure_bind]
  refine (loadPair_spec 1 31 (by omega) (by omega)).bind ?_
  rintro p' _ ⟨rfl, hp'⟩
  have hx1 : Extremes (tileCol t 1 σ.x) (minMaxStep p' b) := by
    intro y; have := hb.step hp' y; rw [show rowW w1 ⟨1, _⟩ y = _ from hw1 y] at this; exact this
  refine (scaleTile_spec (σ := { σ with w := w1, u := u0, s := s1 }) t 1 (by omega) _ hw1 hx1).bind ?_
  rintro _ _ ⟨u1, rfl, hu1, hk⟩
  have hu0' : Scaled t 0 σ.x u1 := hk 0 (by decide) hu0
  rw [cutT_eq]
  unfold fitTiles
  refine (storeStat_spec (slot4 R c) t 1 (by omega) _).bind ?_
  rintro _ _ ⟨s2, rfl, hs2⟩
  refine (fitLoop_spec (σ := { σ with w := w1, u := u1, s := s2 }) t i _ _ hu0' hu1 hx0.fit hx1.fit).bind ?_
  rintro f _ ⟨rfl, hf0, hf1⟩
  refine (finish_spec (σ := { σ with w := w1, u := u1, s := s2 }) harg3 t 0 (by omega) _ _ _ hu0' hx0.log hx0.start fun y => congrArg (fun p => p.1) (hf0 y)).bind ?_
  rintro _ σ1 ⟨ex, es, eu, hz, he, hd, hq⟩
  have ex' : σ1.x = σ.x := ex
  refine (finish_spec harg3 t 1 (by omega) _ _ _ ?_ ?_ ?_ ?_).mono ?_
  · rw [eu, ex']; exact hu1
  · rw [ex']; exact hx1.log
  · rw [ex']; exact hx1.start
  · rw [ex']; exact fun y => congrArg (fun p => p.1) (hf1 y)
  rintro _ σ2 ⟨ex2, es2, eu2, hz2, he2, hd2, hq2⟩
  rw [ex'] at hz2 he2 hd2 hq2 ex2
  refine ⟨ex2, ?_, ?_, ?_, ?_, ?_⟩
  · rw [es2, es]
    refine stat_trip t (fun g l => gS (colX σ.x g l)) h.s (s1 := s1) ⟨fun y => ?_, hs1.2⟩ ⟨fun y => ?_, hs2.2⟩
    · exact (hs1.1 y).trans (hx0.scale y)
    · exact (hs2.1 y).trans (hx1.scale y)
  · exact stat_trip t (fun g l => gZ (colX σ.x g l)) h.z hz hz2
  · exact stat_trip t (fun g l => gErr (colX σ.x g l)) h.err he he2
  · exact stat_trip t (fun g l => gShift (colX σ.x g l)) h.shift hd hd2
  · exact code_trip t (fun g l => colX σ.x g l) h.codes hq hq2

/-- The whole body: the results of all 1024 columns. -/
theorem body_spec (i : grid0.Coords) (harg2 : R.arg2.IsWhole) (harg3 : R.arg3.IsWhole) (harg4 : R.arg4.IsWhole) (harg5 : R.arg5.IsWhole)
    (harg6 : R.arg6.IsWhole) (harg7 : R.arg7.IsWhole) (harg8 : R.arg8.IsWhole) (harg9 : R.arg9.IsWhole) (harg10 : R.arg10.IsWhole) :
    Runs R c σ (cc0_hqq_fit i R.arg2 harg2 R.arg3 harg3 R.arg4 harg4 R.arg5 harg5 R.arg6 harg6 R.arg7 harg7 R.arg8 harg8 R.arg9 harg9 R.arg10 harg10)
      (fun _ σ' => Done σ.x 1024 σ') := by
  rw [cc0_hqq_fit_eq_skeleton]
  unfold cc0_hqq_fit_skel
  refine (Runs.for (fun n _ σ' => Done σ.x (256 * n) σ') ⟨rfl, ?_, ?_, ?_, ?_, ?_⟩ fun t _ σ' h =>
    trip_spec i harg2 harg3 harg4 harg5 harg6 harg7 harg8 harg9 harg10 σ.x t h).bind fun _ _ h => Runs.ret h
  all_goals intros; omega

end Cert.KernelIdeal.Hand

end
-- ==== Proof.IdealRun.lean ====
/-
  The run of the idealized kernel with its five results named: each result block is a function of the argument's block,
  and each result array at an index is that function of a group of 64 rows of one column of the argument.
-/
module

public import proofs.«01_k».proof.Proof.IdealTrip
public import proofs.«01_k».proof.Proof.IdealFrame
public import Idealize.ShloMosaic.Lib.Pipeline.Value
public import Idealize.ShloMosaic.Lib.Pipeline.ValueKit.Geometry

@[expose] public section

set_option maxRecDepth 16384

noncomputable section

namespace Cert.KernelIdeal.Hand.Named

open Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A statistic of every group and column of a block. -/
def outStat (f : (ℕ → EReal) → EReal) (x : Vec Ideal S1x512x1024 .bf16) : Vec Ideal S1x8x1024 .f32 :=
  fun y => f (colX x (y 1) (y 2))

/-- The packed codes of a block: byte row `32 g + 4 j + i` is byte `i` of word `j` of group `g`. -/
def outCodes (x : Vec Ideal S1x512x1024 .bf16) : Vec Ideal S1x256x1024 .i8 :=
  fun y => byteOf (gWord (colX x ⟨(y 1).val / 32, by have := (y 1).isLt; show _ < 8; change (y 1).val < 256 at this; omega⟩ (y 2)) ((y 1).val % 32 / 4)) ((y 1).val % 4)

theorem stat_eq {f : (ℕ → EReal) → EReal} {x : Vec Ideal S1x512x1024 .bf16} {v : Vec Ideal S1x8x1024 .f32}
    (h : ∀ g l, l.val < 1024 → statAt v g l = f (colX x g l)) : v = outStat f x := by
  funext y
  have e := h (y 1) (y 2) (y 2).isLt
  have h0 : y 0 = (0 : Fin 1) := Fin.ext (by have := (y 0).isLt; change (y 0).val < 1 at this; show (y 0).val = 0; omega)
  rw [eq_ix3 y, h0]
  exact e

theorem codes_eq {x : Vec Ideal S1x512x1024 .bf16} {v : Vec Ideal S1x256x1024 .i8}
    (h : ∀ (g : Fin 8) l j (hj : j < 8) i (hi : i < 4), l.val < 1024 →
      codeAt v ⟨32 * g.val + 4 * j + i, by omega⟩ l = byteOf (gWord (colX x g l) j) i) : v = outCodes x := by
  funext y
  have hy : (y 1).val < 256 := (y 1).isLt
  have e := h ⟨(y 1).val / 32, by omega⟩ (y 2) ((y 1).val % 32 / 4) (by omega) ((y 1).val % 4) (by omega) (y 2).isLt
  have h0 : y 0 = (0 : Fin 1) := Fin.ext (by have := (y 0).isLt; change (y 0).val < 1 at this; show (y 0).val = 0; omega)
  have h1 : (⟨32 * ((y 1).val / 32) + 4 * ((y 1).val % 32 / 4) + (y 1).val % 4, by omega⟩ : Fin 256) = y 1 := Fin.ext (by
    show 32 * ((y 1).val / 32) + 4 * ((y 1).val % 32 / 4) + (y 1).val % 4 = (y 1).val
    omega)
  unfold outCodes
  refine Eq.trans ?_ e
  rw [show codeAt v _ (y 2) = v (ix3 0 _ (y 2)) from rfl]
  exact congrArg v ((eq_ix3 y).trans (by rw [h0]; exact congrArg (fun k => ix3 (0 : Fin 1) k (y 2)) h1.symm))

variable (m : (ℓ : Loc nD τ sig) → Buf (Elt Ideal) ℓ) (ρ : Dev nD → PrngReg)

/-- The argument's block at a point. -/
abbrev xblk (c : Dev nD) (t : Fin cfg0.N) : Vec Ideal S1x512x1024 .bf16 := iblk m c 0 t

/-- The pipeline's proof data: the input window's buffer at its block, the outputs at their functions of that block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => outCodes (xblk m c t)
    | ⟨2, _⟩ => outStat gS (xblk m c t)
    | ⟨3, _⟩ => outStat gZ (xblk m c t)
    | ⟨4, _⟩ => outStat gErr (xblk m c t)
    | ⟨5, _⟩ => outStat gShift (xblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outCodes (xblk m c t) := by dsimp only [dats]
theorem after0_2 (c : Dev nD) (t : Fin cfg0.N) : (dats m 0 c).after 2 t = outStat gS (xblk m c t) := by dsimp only [dats]
theorem after0_3 (c : Dev nD) (t : Fin cfg0.N) : (dats m 0 c).after 3 t = outStat gZ (xblk m c t) := by dsimp only [dats]
theorem after0_4 (c : Dev nD) (t : Fin cfg0.N) : (dats m 0 c).after 4 t = outStat gErr (xblk m c t) := by dsimp only [dats]
theorem after0_5 (c : Dev nD) (t : Fin cfg0.N) : (dats m 0 c).after 5 t = outStat gShift (xblk m c t) := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body's nine memrefs at a point. -/
abbrev refsAt (t : Fin cfg0.N) : Refs := ⟨ms0_0 t, ms0_1 t, ms0_2 t, ms0_3 t, ms0_4 t, ms0_5 t, scM0_0, scM0_1, scM0_2⟩

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩⟩
  have hrun := body_spec (R := refsAt t) (c := c) (σ := ⟨xblk m c t, (dats m 0 c).before 1 t d1, (dats m 0 c).before 2 t d2,
      (dats m 0 c).before 3 t d3, (dats m 0 c).before 4 t d4, (dats m 0 c).before 5 t d5, e0, e1, e2⟩) (grid0.coords t)
    (hs0_0 t) (hs0_1 t) (hs0_2 t) (hs0_3 t) (hs0_4 t) (hs0_5 t) (Memref.isWhole_whole _) (Memref.isWhole_whole _) (Memref.isWhole_whole _)
  unfold Runs at hrun
  iapply wp_wand_r
  isplitl [H0 H1 H2 H3 H4 H5 HS0 HS1 HS2]
  · iapply hrun
    unfold own
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro %_ ⟨%σ', %hd, H⟩
  have hx := hd.hx; have h1 := codes_eq hd.codes; have h2 := stat_eq hd.s; have h3 := stat_eq hd.z
  have h4 := stat_eq hd.err; have h5 := stat_eq hd.shift
  obtain ⟨x', codes', s', z', err', shift', w', u', b'⟩ := σ'
  dsimp only at hx h1 h2 h3 h4 h5
  subst hx h1 h2 h3 h4 h5
  unfold own
  icases H with ⟨H0, H1, H2, H3, H4, H5, HS0, HS1, HS2⟩
  isplitl [HS0 HS1 HS2 Hg]
  · isplitl [HS0 HS1 HS2]
    · isplitl [HS0]; · iexists _; iexact HS0
      isplitl [HS1]; · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The run: every array at what the data say it holds at the end. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The result arrays -/

/-- Group `g`, column `l`, of matrix `e` of the argument: its 64 values. -/
def colA (W : Vec Ideal S3x512x18432 .bf16) (e : Fin 3) (g : Fin 8) (l : Fin 18432) (r : ℕ) : EReal :=
  if h : r < 64 then W (ix3 e ⟨64 * g.val + r, by omega⟩ l) else 0

/-- A statistic of every group and column of the argument. -/
def arrStat (f : (ℕ → EReal) → EReal) (W : Vec Ideal S3x512x18432 .bf16) : Vec Ideal S3x8x18432 .f32 :=
  fun y => f (colA W (y 0) (y 1) (y 2))

/-- The packed codes of the argument. -/
def arrCodes (W : Vec Ideal S3x512x18432 .bf16) : Vec Ideal S3x256x18432 .i8 :=
  fun y => byteOf (gWord (colA W (y 0) ⟨(y 1).val / 32, by have := (y 1).isLt; show _ < 8; change (y 1).val < 256 at this; omega⟩ (y 2)) ((y 1).val % 32 / 4)) ((y 1).val % 4)

/-- The point's block index: one matrix and 1024 of its columns, at every window. -/
theorem idx : ∀ t : Fin cfg0.N, win0_0.index t = ![t.val / 18, 0, t.val % 18] ∧ win0_1.index t = ![t.val / 18, 0, t.val % 18]
    ∧ win0_2.index t = ![t.val / 18, 0, t.val % 18] ∧ win0_3.index t = ![t.val / 18, 0, t.val % 18]
    ∧ win0_4.index t = ![t.val / 18, 0, t.val % 18] ∧ win0_5.index t = ![t.val / 18, 0, t.val % 18] :=
  (by decide +kernel : ∀ t : Fin grid0.N, _)

/-- A block's column is a column of the argument. -/
theorem colX_xblk (c : Dev nD) (t : Fin cfg0.N) (g g' : Fin 8) (l : Fin 1024) (e : Fin 3) (L : Fin 18432) (he : e.val = t.val / 18)
    (hg : g'.val = g.val) (hL : L.val = 1024 * (t.val % 18) + l.val) :
    colX (xblk m c t) g l = colA (m ((c : Thread nD τ).loc main_arg0)) e g' L := by
  obtain rfl : g = g' := Fin.ext hg.symm
  funext r
  unfold colX colA
  split
  · rename_i h
    obtain ⟨e0, -⟩ := idx t
    unfold xblk
    blk_ext [iblk, V, e0, he, hL]
    show t.val % 18 * 1024 + l.val = _
    omega
  · rfl

theorem stat_arr (c : Dev nD) (t : Fin cfg0.N) (f : (ℕ → EReal) → EReal) (y : S1x8x1024.Idx) (Y : S3x8x18432.Idx)
    (h0 : (Y 0).val = t.val / 18) (h1 : (Y 1).val = (y 1).val) (h2 : (Y 2).val = 1024 * (t.val % 18) + (y 2).val) :
    outStat f (xblk m c t) y = arrStat f (m ((c : Thread nD τ).loc main_arg0)) Y :=
  congrArg f (colX_xblk m c t (y 1) (Y 1) (y 2) (Y 0) (Y 2) h0 h1 h2)

theorem byte_row (w : ℕ → EReal) {n n' : ℕ} (h : n = n') :
    byteOf (gWord w (n % 32 / 4)) (n % 4) = byteOf (gWord w (n' % 32 / 4)) (n' % 4) := by rw [h]

theorem codes_arr (c : Dev nD) (t : Fin cfg0.N) (y : S1x256x1024.Idx) (Y : S3x256x18432.Idx)
    (h0 : (Y 0).val = t.val / 18) (h1 : (Y 1).val = (y 1).val) (h2 : (Y 2).val = 1024 * (t.val % 18) + (y 2).val) :
    outCodes (xblk m c t) y = arrCodes (m ((c : Thread nD τ).loc main_arg0)) Y := by
  have hy : (y 1).val < 256 := (y 1).isLt
  unfold outCodes arrCodes
  rw [colX_xblk m c t _ ⟨(Y 1).val / 32, by omega⟩ (y 2) (Y 0) (Y 2) h0 (congrArg (· / 32) h1) h2]
  exact byte_row _ h1.symm

theorem final_codes (c : Dev nD) : (dats m 0 c).arrAt 1 cfg0.N = arrCodes (m ((c : Thread nD τ).loc main_arg0)) := by
  refine (dats m 0 c).arrAt_eq_of_covers 1 _ (by decide +kernel) fun t hf y => ?_
  obtain ⟨-, e, -⟩ := idx t
  blk_simp [e]
  rw [after0_1]
  refine codes_arr m c t y _ ?_ ?_ ?_
  all_goals (blk_simp [e]; try omega)

theorem final_s (c : Dev nD) : (dats m 0 c).arrAt 2 cfg0.N = arrStat gS (m ((c : Thread nD τ).loc main_arg0)) := by
  refine (dats m 0 c).arrAt_eq_of_covers 2 _ (by decide +kernel) fun t hf y => ?_
  obtain ⟨-, -, e, -⟩ := idx t
  blk_simp [e]
  rw [after0_2]
  refine stat_arr m c t gS y _ ?_ ?_ ?_
  all_goals (blk_simp [e]; try omega)

theorem final_z (c : Dev nD) : (dats m 0 c).arrAt 3 cfg0.N = arrStat gZ (m ((c : Thread nD τ).loc main_arg0)) := by
  refine (dats m 0 c).arrAt_eq_of_covers 3 _ (by decide +kernel) fun t hf y => ?_
  obtain ⟨-, -, -, e, -⟩ := idx t
  blk_simp [e]
  rw [after0_3]
  refine stat_arr m c t gZ y _ ?_ ?_ ?_
  all_goals (blk_simp [e]; try omega)

theorem final_err (c : Dev nD) : (dats m 0 c).arrAt 4 cfg0.N = arrStat gErr (m ((c : Thread nD τ).loc main_arg0)) := by
  refine (dats m 0 c).arrAt_eq_of_covers 4 _ (by decide +kernel) fun t hf y => ?_
  obtain ⟨-, -, -, -, e, -⟩ := idx t
  blk_simp [e]
  rw [after0_4]
  refine stat_arr m c t gErr y _ ?_ ?_ ?_
  all_goals (blk_simp [e]; try omega)

theorem final_shift (c : Dev nD) : (dats m 0 c).arrAt 5 cfg0.N = arrStat gShift (m ((c : Thread nD τ).loc main_arg0)) := by
  refine (dats m 0 c).arrAt_eq_of_covers 5 _ (by decide +kernel) fun t hf y => ?_
  obtain ⟨-, -, -, -, -, e⟩ := idx t
  blk_simp [e]
  rw [after0_5]
  refine stat_arr m c t gShift y _ ?_ ?_ ?_
  all_goals (blk_simp [e]; try omega)

/-- The run: the five result arrays as functions of the argument, the argument as it was. -/
theorem run_values : θ_run defs (onTc (τ := τ) (main (F := Ideal))) ⟨m, fun _ => 0, ρ⟩ (fun r => (∀ c : Dev nD,
      r.2.mem ((c.tc : Thread nD τ).loc main_v0_0) = arrCodes (m ((c.tc : Thread nD τ).loc main_arg0))
      ∧ r.2.mem ((c.tc : Thread nD τ).loc main_v0_1) = arrStat gS (m ((c.tc : Thread nD τ).loc main_arg0))
      ∧ r.2.mem ((c.tc : Thread nD τ).loc main_v0_2) = arrStat gZ (m ((c.tc : Thread nD τ).loc main_arg0))
      ∧ r.2.mem ((c.tc : Thread nD τ).loc main_v0_3) = arrStat gErr (m ((c.tc : Thread nD τ).loc main_arg0))
      ∧ r.2.mem ((c.tc : Thread nD τ).loc main_v0_4) = arrStat gShift (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun _ h => ⟨fun c => ⟨(h.1.out_eq c 1).trans (final_codes m c), (h.1.out_eq c 2).trans (final_s m c),
    (h.1.out_eq c 3).trans (final_z m c), (h.1.out_eq c 4).trans (final_err m c), (h.1.out_eq c 5).trans (final_shift m c),
    (h.1.in_eq c 0 rfl).trans (A_eq m c 0)⟩, h.2⟩) (run_main m ρ)

end Cert.KernelIdeal.Hand.Named

end
-- ==== Proof.IdealConst.lean ====
/-
  The constants of the two programs as real numbers, and the idealized operations at real numbers.
-/
module

public import proofs.«01_k».proof.Proof.IdealScalar
public import Idealize.ShloMosaic.Lib.IdealHost

@[expose] public section

noncomputable section

namespace Cert.KernelIdeal.Hand

open Cert.KernelIdeal.Gen
open Idealize.ShloMosaic

theorem cst_15 : cst 0x41700000#32 = ((15 : ℝ) : EReal) := by
  show Ideal.ofBits .f32 _ = _; simp [Ideal.ofBits, Ideal.ieee, -EReal.coe_mul]; norm_num
theorem cst_0 : cst 0x00000000#32 = ((0 : ℝ) : EReal) := by
  show Ideal.ofBits .f32 _ = _; simp [Ideal.ofBits, Ideal.ieee, -EReal.coe_mul]
theorem cst_2 : cst 0x40000000#32 = ((2 : ℝ) : EReal) := by
  show Ideal.ofBits .f32 _ = _; simp [Ideal.ofBits, Ideal.ieee, -EReal.coe_mul]; norm_num
theorem cst_1 : cst 0x3F800000#32 = ((1 : ℝ) : EReal) := by
  show Ideal.ofBits .f32 _ = _; simp [Ideal.ofBits, Ideal.ieee, -EReal.coe_mul]; norm_num
theorem cst_growth : cst 0x3F8147AE#32 = ((4236247 / 4194304 : ℝ) : EReal) := by
  show Ideal.ofBits .f32 _ = _; simp [Ideal.ofBits, Ideal.ieee, -EReal.coe_mul]; norm_num
theorem cst_10 : cst 0x41200000#32 = ((10 : ℝ) : EReal) := by
  show Ideal.ofBits .f32 _ = _; simp [Ideal.ofBits, Ideal.ieee, -EReal.coe_mul]; norm_num
theorem cst_100 : cst 0x42C80000#32 = ((100 : ℝ) : EReal) := by
  show Ideal.ofBits .f32 _ = _; simp [Ideal.ofBits, Ideal.ieee, -EReal.coe_mul]; norm_num
theorem cst_neg_100 : cst 0xC2C80000#32 = ((-100 : ℝ) : EReal) := by
  show Ideal.ofBits .f32 _ = _; simp [Ideal.ofBits, Ideal.ieee, -EReal.coe_mul, -EReal.coe_neg]; norm_num
theorem cst_p : cst 0x3F333333#32 = ((11744051 / 16777216 : ℝ) : EReal) := by
  show Ideal.ofBits .f32 _ = _; simp [Ideal.ofBits, Ideal.ieee, -EReal.coe_mul]; norm_num
theorem cst_inv_64 : cst 0x3C800000#32 = ((1 / 64 : ℝ) : EReal) := by
  show Ideal.ofBits .f32 _ = _; simp [Ideal.ofBits, Ideal.ieee, -EReal.coe_mul]; norm_num
theorem cst_64 : cst 0x42800000#32 = ((64 : ℝ) : EReal) := by
  show Ideal.ofBits .f32 _ = _; simp [Ideal.ofBits, Ideal.ieee, -EReal.coe_mul]; norm_num
theorem cst_16 : cst 0x41800000#32 = ((16 : ℝ) : EReal) := by
  show Ideal.ofBits .f32 _ = _; simp [Ideal.ofBits, Ideal.ieee, -EReal.coe_mul]; norm_num
theorem cst_256 : cst 0x43800000#32 = ((256 : ℝ) : EReal) := by
  show Ideal.ofBits .f32 _ = _; simp [Ideal.ofBits, Ideal.ieee, -EReal.coe_mul]; norm_num
theorem cst_4096 : cst 0x45800000#32 = ((4096 : ℝ) : EReal) := by
  show Ideal.ofBits .f32 _ = _; simp [Ideal.ofBits, Ideal.ieee, -EReal.coe_mul]; norm_num
theorem cst_m : cst 0xBE99999A#32 = ((-5033165 / 16777216 : ℝ) : EReal) := by
  show Ideal.ofBits .f32 _ = _; simp [Ideal.ofBits, Ideal.ieee, -EReal.coe_mul, -EReal.coe_neg]; norm_num
theorem cst_low : cst 0x1B000000#32 = (((1 : ℝ) / 2 ^ 73 : ℝ) : EReal) := by
  show Ideal.ofBits .f32 _ = _; simp [Ideal.ofBits, Ideal.ieee, -EReal.coe_mul]; norm_num
theorem cst_high : cst 0x67800000#32 = ((1208925819614629174706176 : ℝ) : EReal) := by
  show Ideal.ofBits .f32 _ = _; simp [Ideal.ofBits, Ideal.ieee, -EReal.coe_mul]; norm_num
theorem cst_top : cst 0x7F800000#32 = ⊤ := by
  show Ideal.ofBits .f32 _ = _; simp [Ideal.ofBits, Ideal.ieee]
theorem cst_bot : cst 0xFF800000#32 = ⊥ := by
  show Ideal.ofBits .f32 _ = _; simp [Ideal.ofBits, Ideal.ieee]

theorem named_neg_shrink : Named.named (F := Ideal) (φ := .f32) κ "neg_shrink_exp" 0xBFA66666#32 = ((-21810381 / 16777216 : ℝ) : EReal) :=
  IdealRules.named_const.ideal_named_scalar _ _ _ _ rfl
theorem named_shrink : Named.named (F := Ideal) (φ := .f32) κ "shrink_exp" 0x3FA66666#32 = ((21810381 / 16777216 : ℝ) : EReal) :=
  IdealRules.named_const.ideal_named_scalar _ _ _ _ rfl
theorem named_inv_growth : Named.named (F := Ideal) (φ := .f32) κ "inv_growth" 0x3F7D7721#32 = ((4194304 / 4236247 : ℝ) : EReal) :=
  IdealRules.named_const.ideal_named_scalar _ _ _ _ rfl
theorem named_step_init : Named.named (F := Ideal) (φ := .f32) κ "step_init" 0x3ACCCCCD#32 = ((1 / 640 : ℝ) : EReal) :=
  IdealRules.named_const.ideal_named_scalar _ _ _ _ rfl

/-! ## The operations at real numbers -/

theorem coe_min (a b : ℝ) : min (a : EReal) (b : EReal) = ((min a b : ℝ) : EReal) := (EReal.coe_strictMono.monotone.map_min).symm
theorem coe_max (a b : ℝ) : max (a : EReal) (b : EReal) = ((max a b : ℝ) : EReal) := (EReal.coe_strictMono.monotone.map_max).symm

theorem coe_sum (n : ℕ) (f : ℕ → ℝ) : ∑ r ∈ Finset.range n, ((f r : ℝ) : EReal) = ((∑ r ∈ Finset.range n, f r : ℝ) : EReal) := by
  induction n with
  | zero => simp
  | succ n ih => rw [Finset.sum_range_succ, Finset.sum_range_succ, ih, EReal.coe_add]

theorem div_real {y : ℝ} (h : y ≠ 0) (x : ℝ) : Ideal.div (x : EReal) (y : EReal) = ((x * (1 / y) : ℝ) : EReal) := by
  rw [Ideal.div_coe h, EReal.coe_mul]

theorem sAbs_real (x : ℝ) : sAbs (x : EReal) = ((|x| : ℝ) : EReal) := by
  unfold sAbs
  rw [← EReal.coe_neg, coe_max]; rfl

theorem log_two_ne : Real.log 2 ≠ 0 := (Real.log_pos (by norm_num)).ne'

theorem sLog2_real {x : ℝ} (h : 0 < x) : sLog2 (x : EReal) = ((Real.log x * (1 / Real.log 2) : ℝ) : EReal) := by
  unfold sLog2
  rw [cst_2, Ideal.log_coe, Ideal.log_coe, if_neg (not_le.mpr h), if_neg (by norm_num), div_real log_two_ne]

theorem sLog2_zero : sLog2 ((0 : ℝ) : EReal) = ⊥ := by
  unfold sLog2
  rw [cst_2, Ideal.log_coe, Ideal.log_coe, if_pos le_rfl, if_neg (by norm_num), Ideal.div_coe log_two_ne]
  exact EReal.bot_mul_coe_of_pos (one_div_pos.mpr (Real.log_pos (by norm_num)))

theorem two_rpow_log {x : ℝ} (h : 0 < x) (p : ℝ) : Real.rpow 2 (Real.log x * (1 / Real.log 2) * p) = x ^ p := by
  show (2 : ℝ) ^ (Real.log x * (1 / Real.log 2) * p) = _
  rw [Real.rpow_def_of_pos (by norm_num), Real.rpow_def_of_pos h]
  congr 1
  have := log_two_ne
  field_simp

theorem exp2_log {x : ℝ} (h : 0 < x) (p : ℝ) : Ideal.exp2 (sLog2 (x : EReal) * (p : EReal)) = ((x ^ p : ℝ) : EReal) := by
  rw [sLog2_real h, ← EReal.coe_mul, Ideal.exp2_coe, two_rpow_log h]

theorem exp2_log_zero {p : ℝ} (hp : 0 < p) : Ideal.exp2 (sLog2 ((0 : ℝ) : EReal) * (p : EReal)) = 0 := by
  rw [sLog2_zero, EReal.bot_mul_coe_of_pos hp]; rfl

end Cert.KernelIdeal.Hand

end
-- ==== Proof.IdealFitMath.lean ====
/-
  The fit over the real numbers: one iteration of the kernel's recurrence and one of the reference's move the zero point
  to the same place.
-/
module

public import proofs.«01_k».proof.Proof.IdealConst

@[expose] public section

noncomputable section

namespace Cert.KernelIdeal.Hand

open Cert.KernelIdeal.Gen
open Idealize.ShloMosaic

/-! ## The reference's operations, at extended reals -/

/-- The code of a weight. -/
def fQ (s z w : EReal) : EReal :=
  min (cst 0x41700000#32) (max (cst 0x00000000#32) (Ideal.liftRound Ideal.roundHalfEven (Ideal.div w s + z)))
/-- The error of a weight. -/
def fE (s z w : EReal) : EReal := w - (fQ s z w - z) * s
/-- The error's absolute value where it is positive, 1 elsewhere. -/
def fBase (e : EReal) : EReal := Scalar.select (Ideal.cmp .ogt (sAbs e) (cst 0x00000000#32)) (sAbs e) (cst 0x3F800000#32)
/-- The shrunk error. -/
def fShrunk (b e : EReal) : EReal :=
  Ideal.sign e * max (sAbs e - Ideal.div (cst 0x3F800000#32) b * Ideal.pow (fBase e) (cst 0xBE99999A#32)) (cst 0x00000000#32)
/-- A weight's term of the mean that is the next zero point. -/
def fTerm (s z b w : EReal) : EReal := fQ s z w - Ideal.div (w - fShrunk b (fE s z w)) s
/-- One iteration of the zero point and of the growing factor. -/
def fStep (s : EReal) (w : ℕ → EReal) (a : EReal × EReal) : EReal × EReal :=
  (Ideal.div (cst 0x00000000#32 + ∑ r ∈ Finset.range 64, fTerm s a.1 a.2 (w r)) (cst 0x42800000#32), a.2 * cst 0x3F8147AE#32)
def fIter (s : EReal) (w : ℕ → EReal) (a : EReal × EReal) (n : ℕ) : EReal × EReal := (fStep s w)^[n] a

/-! ## Over the reals -/

/-- The exponent less one, and the exponent. -/
def eN : ℝ := -21810381 / 16777216
def eM : ℝ := -5033165 / 16777216

theorem eM_eq : eM = eN + 1 := by unfold eM eN; norm_num

def rq (t : ℝ) : ℝ := min 15 (max 0 (Ideal.roundHalfEven t : ℝ))
def rd (z u : ℝ) : ℝ := u + z - rq (u + z)
def rg (z ι u : ℝ) : ℝ := rd z u * min (|rd z u| ^ eN) ι

theorem sQ_real (z u : ℝ) : sQ z u = ((rq (u + z) : ℝ) : EReal) := by
  unfold sQ sT rq
  rw [← EReal.coe_add, Ideal.liftRound_coe, cst_15, cst_0, coe_max, coe_min]

theorem sD_real (z u : ℝ) : sD z u = ((rd z u : ℝ) : EReal) := by
  unfold sD sT rd
  rw [sQ_real, ← EReal.coe_add, ← EReal.coe_sub]

theorem sG_real (z ι u : ℝ) : sG z ι u = ((rg z ι u : ℝ) : EReal) := by
  unfold sG rg
  rw [sD_real, sAbs_real, named_neg_shrink]
  by_cases h : rd z u = 0
  · rw [h, zero_mul, EReal.coe_zero, zero_mul]
  · rw [exp2_log (abs_pos.mpr h), coe_min, ← EReal.coe_mul]; rfl

theorem fQ_real {σ : ℝ} (h : σ ≠ 0) (z a : ℝ) : fQ σ z a = ((rq (a * (1 / σ) + z) : ℝ) : EReal) := by
  unfold fQ rq
  rw [div_real h, ← EReal.coe_add, Ideal.liftRound_coe, cst_15, cst_0, coe_max, coe_min]

theorem fE_real {σ : ℝ} (h : σ ≠ 0) (z a : ℝ) : fE σ z a = ((σ * rd z (a * (1 / σ)) : ℝ) : EReal) := by
  unfold fE
  rw [fQ_real h, ← EReal.coe_sub, ← EReal.coe_mul, ← EReal.coe_sub]
  congr 1
  unfold rd
  field_simp
  ring

theorem fShrunk_zero {β : ℝ} (hβ : 0 < β) : fShrunk β ((0 : ℝ) : EReal) = ((0 : ℝ) : EReal) := by
  unfold fShrunk fBase
  rw [sAbs_real, cst_0, cst_1, cst_m, div_real hβ.ne']
  have hb : Scalar.select (Ideal.cmp .ogt ((|(0 : ℝ)| : ℝ) : EReal) ((0 : ℝ) : EReal)) ((|(0 : ℝ)| : ℝ) : EReal) ((1 : ℝ) : EReal) = ((1 : ℝ) : EReal) := by
    unfold Scalar.select Ideal.cmp; simp
  rw [hb, Ideal.pow_coe_coe, ← EReal.coe_mul, ← EReal.coe_sub, coe_max, Ideal.sign_coe, ← EReal.coe_mul]
  simp

theorem fShrunk_real {β e : ℝ} (hβ : 0 < β) (he : e ≠ 0) :
    fShrunk β e = (((SignType.sign e : ℝ) * max (|e| - 1 * (1 / β) * |e| ^ eM) 0 : ℝ) : EReal) := by
  have hp := abs_pos.mpr he
  unfold fShrunk fBase
  rw [sAbs_real, cst_0, cst_1, cst_m, div_real hβ.ne']
  have hb : Scalar.select (Ideal.cmp .ogt ((|e| : ℝ) : EReal) ((0 : ℝ) : EReal)) ((|e| : ℝ) : EReal) ((1 : ℝ) : EReal) = ((|e| : ℝ) : EReal) := by
    unfold Scalar.select Ideal.cmp
    have : ((0 : ℝ) : EReal) < ((|e| : ℝ) : EReal) := EReal.coe_lt_coe_iff.mpr hp
    simp only [this, decide_true]; rfl
  rw [hb, Ideal.pow_coe_coe, ← EReal.coe_mul, ← EReal.coe_sub, coe_max, Ideal.sign_coe, ← EReal.coe_mul]
  rfl

/-- The shrinking in units of the scale. -/
theorem shrink_units {σ x β A B : ℝ} (hσ : 0 < σ) (hx : 0 < x) (hβ : 0 < β) (hA : 0 < A) (hB : 0 < B) :
    x - max (σ * x - 1 * (1 / β) * (σ * A * (x * B))) 0 * (1 / σ) = 1 / (β / A) * (x * min B (β / A)) := by
  have hsx : 0 < σ * x := mul_pos hσ hx
  have e1 : σ * x - 1 * (1 / β) * (σ * A * (x * B)) = σ * x * (1 - A * B / β) := by field_simp
  rcases le_total B (β / A) with h | h
  · have h1 : A * B / β ≤ 1 := by
      rw [div_le_one hβ]; rw [le_div_iff₀ hA] at h; linarith
    rw [min_eq_left h, e1, max_eq_left (mul_nonneg hsx.le (by linarith))]
    field_simp; ring
  · have h1 : 1 ≤ A * B / β := by
      rw [one_le_div hβ]; rw [div_le_iff₀ hA] at h; linarith
    rw [min_eq_right h, e1, max_eq_right (by nlinarith)]
    field_simp; ring

theorem sign_mul_abs' (d : ℝ) : (SignType.sign d : ℝ) * |d| = d := by
  rcases lt_trichotomy d 0 with h | h | h
  · rw [sign_neg h, abs_of_neg h]; simp
  · subst h; simp
  · rw [sign_pos h, abs_of_pos h]; simp

/-- The reference's term: the zero point less a multiple of the kernel's. -/
theorem fTerm_real {σ β : ℝ} (hσ : 0 < σ) (hβ : 0 < β) (z a : ℝ) :
    fTerm σ z β a = ((z - 1 / (β / σ ^ eN) * rg z (β / σ ^ eN) (a * (1 / σ)) : ℝ) : EReal) := by
  unfold fTerm
  rw [fE_real hσ.ne', fQ_real hσ.ne']
  have ha : a * (1 / σ) = rd z (a * (1 / σ)) + rq (a * (1 / σ) + z) - z := by unfold rd; ring
  by_cases h : rd z (a * (1 / σ)) = 0
  · rw [h, mul_zero, fShrunk_zero hβ, ← EReal.coe_sub, div_real hσ.ne', ← EReal.coe_sub]
    congr 1
    unfold rg
    rw [h, zero_mul, mul_zero, sub_zero, sub_zero]
    rw [h] at ha; linarith
  · rw [fShrunk_real hβ (mul_ne_zero hσ.ne' h), ← EReal.coe_sub, div_real hσ.ne', ← EReal.coe_sub]
    congr 1
    unfold rg
    generalize hd : rd z (a * (1 / σ)) = d at *
    generalize rq (a * (1 / σ) + z) = q at *
    have hx : 0 < |d| := abs_pos.mpr h
    have hA : 0 < σ ^ eN := Real.rpow_pos_of_pos hσ _
    have hB : 0 < |d| ^ eN := Real.rpow_pos_of_pos hx _
    have hs : SignType.sign (σ * d) = SignType.sign d := by rw [sign_mul, sign_pos hσ, one_mul]
    have hp : (σ * |d|) ^ eM = σ * σ ^ eN * (|d| * |d| ^ eN) := by
      rw [eM_eq, Real.mul_rpow hσ.le hx.le, Real.rpow_add hσ, Real.rpow_add hx, Real.rpow_one, Real.rpow_one]; ring
    rw [hs, abs_mul, abs_of_pos hσ, hp]
    have key := shrink_units hσ hx hβ hA hB
    have hsg := sign_mul_abs' d
    have e2 : 1 / (β / σ ^ eN) * (d * min (|d| ^ eN) (β / σ ^ eN)) = (SignType.sign d : ℝ) * (1 / (β / σ ^ eN) * (|d| * min (|d| ^ eN) (β / σ ^ eN))) := by
      rw [← hsg]; rw [hsg]; nth_rewrite 1 [← hsg]; ring
    rw [e2, ← key, sub_mul, ha, mul_sub, hsg]
    ring

/-- Both recurrences after `i` iterations: one zero point, and the factors by their powers. -/
theorem iter_real {σ : ℝ} (hσ : 0 < σ) (z0 : ℝ) (a : ℕ → ℝ) (i : ℕ) : ∃ z β : ℝ, 0 < β ∧
    fIter σ (fun r => (a r : EReal)) ((z0 : EReal), ((10 : ℝ) : EReal)) i = ((z : EReal), (β : EReal)) ∧
    sIter (fun r => ((a r * (1 / σ) : ℝ) : EReal)) ((z0 : EReal), ((10 / σ ^ eN : ℝ) : EReal), ((1 / (64 * (10 / σ ^ eN)) : ℝ) : EReal)) i
      = ((z : EReal), ((β / σ ^ eN : ℝ) : EReal), ((1 / (64 * (β / σ ^ eN)) : ℝ) : EReal)) := by
  induction i with
  | zero => exact ⟨z0, 10, by norm_num, rfl, rfl⟩
  | succ i ih =>
    obtain ⟨z, β, hβ, h1, h2⟩ := ih
    have hA : 0 < σ ^ eN := Real.rpow_pos_of_pos hσ _
    refine ⟨z - 1 / (64 * (β / σ ^ eN)) * ∑ r ∈ Finset.range 64, rg z (β / σ ^ eN) (a r * (1 / σ)), β * (4236247 / 4194304), by positivity, ?_, ?_⟩
    · unfold fIter at h1 ⊢
      rw [Function.iterate_succ_apply', h1]
      unfold fStep
      simp only [fTerm_real hσ hβ]
      rw [coe_sum, cst_0, ← EReal.coe_add, cst_64, div_real (by norm_num), cst_growth, ← EReal.coe_mul]
      congr 2
      rw [Finset.sum_sub_distrib, ← Finset.mul_sum]
      simp only [Finset.sum_const, Finset.card_range, nsmul_eq_mul]
      push_cast
      field_simp
      ring
    · unfold sIter at h2 ⊢
      rw [Function.iterate_succ_apply', h2]
      unfold sStep
      simp only [sG_real]
      rw [coe_sum, ← EReal.coe_mul, ← EReal.coe_sub, cst_growth, ← EReal.coe_mul, named_inv_growth, ← EReal.coe_mul]
      congr 3
      · ring
      · field_simp
        try ring

end Cert.KernelIdeal.Hand

end
-- ==== Proof.IdealGroupMath.lean ====
/-
  A group's results: the kernel's functions of the group's 64 values against the reference's, for a group whose range is 0
  or lies in [2^-73, 2^80].
-/
module

public import proofs.«01_k».proof.Proof.IdealFitMath
public import proofs.«01_k».proof.Proof.IdealSpecPack

@[expose] public section

noncomputable section

namespace Cert.KernelIdeal.Hand

open Cert.KernelIdeal.Gen
open Idealize.ShloMosaic

/-! ## The reference's results of a group -/

def fStart (w : ℕ → EReal) : EReal := Ideal.div (cst 0x00000000#32 - gMin w) (gS w)
def fZ (w : ℕ → EReal) : EReal := (fIter (gS w) w (fStart w, cst 0x41200000#32) 20).1
def fCode (w : ℕ → EReal) (r : ℕ) : BitVec 32 := Ideal.fptosi 32 (fQ (gS w) (fZ w) (w r))
def fErrTerm (w : ℕ → EReal) (r : ℕ) : EReal :=
  Ideal.pow (sAbs (w r - ((((fCode w r).toInt : ℝ) : EReal) - fZ w) * gS w)) (cst 0x3F333333#32)
def fErr (w : ℕ → EReal) : EReal :=
  Ideal.div (cst 0x00000000#32 + ∑ r ∈ Finset.range 64, fErrTerm w r) (cst 0x42800000#32)
def fShift (w : ℕ → EReal) : EReal := fZ w - fStart w
/-- Two rows' codes as a byte. -/
def fByte (w : ℕ → EReal) (r : ℕ) : BitVec 8 := (IntOp.ori (fCode w r) (IntOp.shli .host (fCode w (r + 1)) 4#32)).setWidth 8

/-- A group whose range is 0 or in [2^-73, 2^80]. -/
structure Ranged (w : ℕ → EReal) : Prop where
  range : gMax w - gMin w = ((0 : ℝ) : EReal) ∨ (((1 / 2 ^ 73 : ℝ) : EReal) ≤ gMax w - gMin w ∧ gMax w - gMin w ≤ ((1208925819614629174706176 : ℝ) : EReal))
  rest : ∀ r, 64 ≤ r → w r = 0

/-- What such a group's numbers are. -/
structure Reals (w : ℕ → EReal) (a : ℕ → ℝ) (mn σ : ℝ) : Prop where
  ha : ∀ r, w r = (a r : EReal)
  hmn : gMin w = (mn : EReal)
  hσ : 0 < σ
  hs : gS w = (σ : EReal)
  lo : -100 ≤ Real.log σ * (1 / Real.log 2) * (21810381 / 16777216)
  hi : Real.log σ * (1 / Real.log 2) * (21810381 / 16777216) ≤ 100

theorem sub_real {x y : EReal} {r : ℝ} (h : x - y = (r : EReal)) : ∃ a b : ℝ, x = a ∧ y = b := by
  induction x with
  | bot => simp at h
  | top => induction y with
    | bot => simp at h
    | top => simp at h
    | coe y => simp at h
  | coe x => induction y with
    | bot => simp at h
    | top => simp at h
    | coe y => exact ⟨x, y, rfl, rfl⟩

theorem log15_le : Real.log 15 ≤ 98 / 25 * Real.log 2 := by
  have h : Real.log ((15 : ℝ) ^ 25) ≤ Real.log ((2 : ℝ) ^ 98) := Real.log_le_log (by positivity) (by norm_num)
  rw [Real.log_pow, Real.log_pow] at h
  push_cast at h; linarith

theorem le_log15 : 7 / 2 * Real.log 2 ≤ Real.log 15 := by
  have h : Real.log ((2 : ℝ) ^ 7) ≤ Real.log ((15 : ℝ) ^ 2) := Real.log_le_log (by positivity) (by norm_num)
  rw [Real.log_pow, Real.log_pow] at h
  push_cast at h; linarith

theorem Ranged.reals {w : ℕ → EReal} (h : Ranged w) : ∃ a mn σ, Reals w a mn σ := by
  have hreal : ∃ R : ℝ, gMax w - gMin w = (R : EReal) ∧ (R = 0 ∨ (1 / 2 ^ 73 ≤ R ∧ R ≤ 1208925819614629174706176)) := by
    rcases h.range with h0 | ⟨h1, h2⟩
    · exact ⟨0, h0, Or.inl rfl⟩
    · generalize gMax w - gMin w = x at h1 h2 ⊢
      induction x with
      | bot => exact absurd h1 (by simp)
      | top => exact absurd h2 (by simp)
      | coe x => exact ⟨x, rfl, Or.inr ⟨EReal.coe_le_coe_iff.mp h1, EReal.coe_le_coe_iff.mp h2⟩⟩
  obtain ⟨R, hR, hR'⟩ := hreal
  obtain ⟨mx, mn, hmx, hmn⟩ := sub_real hR
  have hw : ∀ r, ∃ x : ℝ, w r = (x : EReal) := by
    intro r
    by_cases hr : r < 64
    · have h1 : gMin w ≤ w r := Finset.inf_le (Finset.mem_range.mpr hr)
      have h2 : w r ≤ gMax w := Finset.le_sup (f := w) (Finset.mem_range.mpr hr)
      rw [hmn] at h1; rw [hmx] at h2
      generalize w r = x at h1 h2 ⊢
      induction x with
      | bot => exact absurd h1 (by simp)
      | top => exact absurd h2 (by simp)
      | coe x => exact ⟨x, rfl⟩
    · exact ⟨0, by rw [h.rest r (by omega)]; rfl⟩
  choose a ha using hw
  rw [hmx, hmn, ← EReal.coe_sub, EReal.coe_eq_coe_iff] at hR
  have h2 : (0 : ℝ) < Real.log 2 := Real.log_pos (by norm_num)
  by_cases he : mx = mn
  · refine ⟨a, mn, 1, ha, hmn, by norm_num, ?_, ?_, ?_⟩
    · unfold gS sScale
      rw [if_pos (by rw [hmx, hmn, he]), cst_1]
    · rw [Real.log_one]; norm_num
    · rw [Real.log_one]; norm_num
  · have hR0 : R ≠ 0 := fun h0 => he (by linarith)
    obtain ⟨hl, hh⟩ := hR'.resolve_left hR0
    have hRp : 0 < R := lt_of_lt_of_le (by positivity) hl
    have e : Real.log (R * (1 / 15)) = Real.log R - Real.log 15 := by
      rw [mul_one_div, Real.log_div hRp.ne' (by norm_num)]
    have b1 : -73 * Real.log 2 ≤ Real.log R := by
      have := Real.log_le_log (by positivity) hl
      rw [one_div, Real.log_inv, Real.log_pow] at this
      push_cast at this; linarith
    have b2 : Real.log R ≤ 80 * Real.log 2 := by
      have := Real.log_le_log hRp (hh.trans (le_of_eq (by norm_num : (1208925819614629174706176 : ℝ) = 2 ^ 80)))
      rw [Real.log_pow] at this
      push_cast at this; linarith
    have c1 := log15_le
    have c2 := le_log15
    refine ⟨a, mn, R * (1 / 15), ha, hmn, by positivity, ?_, ?_, ?_⟩
    · unfold gS sScale
      rw [if_neg (by rw [hmx, hmn, EReal.coe_eq_coe_iff]; exact he), cst_15, hmx, hmn, ← EReal.coe_sub, div_real (by norm_num), hR]
    · rw [e, mul_one_div, div_mul_eq_mul_div, le_div_iff₀ h2]; nlinarith
    · rw [e, mul_one_div, div_mul_eq_mul_div, div_le_iff₀ h2]; nlinarith

section

variable {w : ℕ → EReal} {a : ℕ → ℝ} {mn σ : ℝ} (h : Reals w a mn σ)
include h

theorem Reals.inv : sInv (gS w) = ((1 / σ : ℝ) : EReal) := by
  unfold sInv
  rw [h.hs, cst_1, div_real h.hσ.ne', one_mul]

theorem Reals.u : gU w = fun r => ((a r * (1 / σ) : ℝ) : EReal) := by
  funext r
  unfold gU
  rw [h.inv, h.ha, EReal.coe_mul]

theorem Reals.start : gZ0 w = (((0 - mn) * (1 / σ) : ℝ) : EReal) := by
  show (cst 0x00000000#32 - gMin w) * sInv (gS w) = _
  rw [h.inv, h.hmn, cst_0, ← EReal.coe_sub, ← EReal.coe_mul]

theorem Reals.fstart : fStart w = (((0 - mn) * (1 / σ) : ℝ) : EReal) := by
  unfold fStart
  rw [h.hs, h.hmn, cst_0, ← EReal.coe_sub, div_real h.hσ.ne']

theorem Reals.exp : sExp (gS w) = ((Real.log σ * (1 / Real.log 2) * (21810381 / 16777216) : ℝ) : EReal) := by
  unfold sExp
  rw [h.hs, sLog2_real h.hσ, named_shrink, ← EReal.coe_mul, cst_100, cst_neg_100, coe_max, coe_min, max_eq_right h.lo, min_eq_right h.hi]

theorem Reals.cut : sCut (gS w) = ((10 / σ ^ eN : ℝ) : EReal) := by
  unfold sCut
  rw [h.exp, Ideal.exp2_coe, two_rpow_log h.hσ, cst_10, ← EReal.coe_mul,
    show (21810381 / 16777216 : ℝ) = -eN by unfold eN; norm_num, Real.rpow_neg h.hσ.le]
  congr 1
  field_simp

theorem Reals.stp : sStp (gS w) = ((1 / (64 * (10 / σ ^ eN)) : ℝ) : EReal) := by
  have hA : 0 < σ ^ eN := Real.rpow_pos_of_pos h.hσ _
  unfold sStp
  rw [h.exp, cst_0, ← EReal.coe_sub, Ideal.exp2_coe, named_step_init, ← EReal.coe_mul,
    show 0 - Real.log σ * (1 / Real.log 2) * (21810381 / 16777216) = Real.log σ * (1 / Real.log 2) * eN by unfold eN; ring,
    two_rpow_log h.hσ]
  congr 1
  field_simp
  norm_num

/-- The zero point. -/
theorem Reals.z : ∃ z : ℝ, gZ w = (z : EReal) ∧ fZ w = (z : EReal) := by
  obtain ⟨z, β, -, h1, h2⟩ := iter_real h.hσ ((0 - mn) * (1 / σ)) a 20
  refine ⟨z, ?_, ?_⟩
  · unfold gZ
    rw [h.cut, h.stp, h.start, h.u, h2]
  · unfold fZ
    rw [h.fstart, h.hs, cst_10, show w = fun r => (a r : EReal) from funext h.ha, h1]

theorem Reals.shift : gShift w = fShift w := by
  obtain ⟨z, h1, h2⟩ := h.z
  unfold gShift fShift
  rw [h1, h2, h.start, h.fstart]

end

/-! ## The codes -/

/-- A code as a natural number. -/
theorem rq_nat (t : ℝ) : ∃ n : ℕ, n ≤ 15 ∧ rq t = (n : ℝ) := by
  unfold rq
  generalize Ideal.roundHalfEven t = k
  refine ⟨(min 15 (max 0 k)).toNat, by omega, ?_⟩
  have : ((min 15 (max 0 k)).toNat : ℤ) = min 15 (max 0 k) := Int.toNat_of_nonneg (by omega)
  rw [← Int.cast_natCast, this]
  push_cast
  rfl

/-- A natural number below 2^31 converted to an integer. -/
theorem fptosi_nat (n : ℕ) (h : n < 2147483648) : Ideal.fptosi 32 ((n : ℝ) : EReal) = BitVec.ofNat 32 n := by
  unfold Ideal.fptosi
  rw [Ideal.toIntClamped_coe, if_pos (by positivity), Int.floor_natCast]
  rw [show max (-((2 ^ (32 - 1) : ℕ) : ℤ)) (min (((2 ^ (32 - 1) : ℕ) : ℤ) - 1) (n : ℤ)) = (n : ℤ) by norm_num; omega]
  rfl

section

variable {w : ℕ → EReal} {a : ℕ → ℝ} {mn σ : ℝ} (h : Reals w a mn σ)
include h

theorem Reals.code (r : ℕ) : ∃ n : ℕ, n ≤ 15 ∧ sQ (gZ w) (gU w r) = ((n : ℝ) : EReal) ∧ fQ (gS w) (fZ w) (w r) = ((n : ℝ) : EReal)
    ∧ fCode w r = BitVec.ofNat 32 n := by
  obtain ⟨z, h1, h2⟩ := h.z
  obtain ⟨n, hn, hq⟩ := rq_nat (a r * (1 / σ) + z)
  have hf : fQ (gS w) (fZ w) (w r) = ((n : ℝ) : EReal) := by rw [h2, h.hs, h.ha, fQ_real h.hσ.ne', hq]
  refine ⟨n, hn, ?_, hf, ?_⟩
  · rw [h1, h.u, sQ_real, hq]
  · unfold fCode
    rw [hf, fptosi_nat n (by omega)]

theorem Reals.err : gErr w = fErr w := by
  obtain ⟨z, h1, h2⟩ := h.z
  have hp : (0 : ℝ) < 11744051 / 16777216 := by norm_num
  have e1 : ∀ r, sE (gZ w) (gU w r) = ((|rd z (a r * (1 / σ))| ^ (11744051 / 16777216 : ℝ) : ℝ) : EReal) := by
    intro r
    unfold sE
    rw [h1, h.u, sD_real, sAbs_real, cst_p]
    by_cases h0 : rd z (a r * (1 / σ)) = 0
    · rw [h0, abs_zero, exp2_log_zero hp, Real.zero_rpow hp.ne']; rfl
    · rw [exp2_log (abs_pos.mpr h0)]
  have e2 : ∀ r, fErrTerm w r = ((σ ^ (11744051 / 16777216 : ℝ) * |rd z (a r * (1 / σ))| ^ (11744051 / 16777216 : ℝ) : ℝ) : EReal) := by
    intro r
    obtain ⟨n, hn, -, hq, hc⟩ := h.code r
    have hi : (BitVec.ofNat 32 n).toInt = (n : ℤ) := by
      rw [BitVec.toInt_eq_toNat_of_lt] <;> rw [BitVec.toNat_ofNat, Nat.mod_eq_of_lt (by omega)]; omega
    unfold fErrTerm
    rw [hc, hi, Int.cast_natCast, ← hq]
    change Ideal.pow (sAbs (fE (gS w) (fZ w) (w r))) _ = _
    rw [h2, h.hs, h.ha, fE_real h.hσ.ne', sAbs_real, cst_p, Ideal.pow_coe_coe, abs_mul, abs_of_pos h.hσ]
    congr 1
    exact Real.mul_rpow h.hσ.le (abs_nonneg _)
  unfold gErr fErr
  simp only [e1, e2]
  rw [coe_sum, coe_sum, h.hs, cst_p, exp2_log h.hσ, cst_inv_64, cst_0, cst_64, ← EReal.coe_add, div_real (by norm_num), ← EReal.coe_mul, ← EReal.coe_mul, ← Finset.mul_sum]
  congr 1
  ring

end

/-- A half word of four codes. -/
theorem sNib_nat (n0 n1 n2 n3 : ℕ) (h0 : n0 ≤ 15) (h1 : n1 ≤ 15) (h2 : n2 ≤ 15) (h3 : n3 ≤ 15) :
    sNib ((n0 : ℝ) : EReal) ((n1 : ℝ) : EReal) ((n2 : ℝ) : EReal) ((n3 : ℝ) : EReal) = BitVec.ofNat 32 (n0 + 16 * n1 + (256 * n2 + 4096 * n3)) := by
  unfold sNib
  rw [cst_16, cst_256, cst_4096, ← EReal.coe_mul, ← EReal.coe_mul, ← EReal.coe_mul, ← EReal.coe_add, ← EReal.coe_add, ← EReal.coe_add,
    ← fptosi_nat _ (by omega)]
  congr 2
  push_cast
  ring

/-- Byte `i` of a word of eight codes. -/
theorem word_byte (n : ℕ → ℕ) (h : ∀ k, n k ≤ 15) (i : ℕ) (hi : i < 4) :
    (((BitVec.ofNat 32 (n 0 + 16 * n 1 + (256 * n 2 + 4096 * n 3)) ||| BitVec.ofNat 32 (n 4 + 16 * n 5 + (256 * n 6 + 4096 * n 7)) <<< 16) >>> (8 * i)).setWidth 8 : BitVec 8)
      = (BitVec.ofNat 32 (n (2 * i)) ||| BitVec.ofNat 32 (n (2 * i + 1)) <<< 4).setWidth 8 := by
  have k0 := h 0; have k1 := h 1; have k2 := h 2; have k3 := h 3
  have k4 := h 4; have k5 := h 5; have k6 := h 6; have k7 := h 7
  have j0 := h (2 * i); have j1 := h (2 * i + 1)
  apply BitVec.eq_of_toNat_eq
  have p : ∀ x y s : ℕ, x < 2 ^ s → y < 2 ^ 16 → x < 2 ^ 32 → y * 2 ^ s < 2 ^ 32 →
      (BitVec.ofNat 32 x ||| BitVec.ofNat 32 y <<< s).toNat = x + y * 2 ^ s := by
    intro x y s hx hy hx' hy'
    rw [BitVec.toNat_or, BitVec.toNat_shiftLeft, BitVec.toNat_ofNat, BitVec.toNat_ofNat, Nat.mod_eq_of_lt hx', Nat.mod_eq_of_lt (a := y) (lt_trans hy (by norm_num)),
      Nat.shiftLeft_eq, Nat.mod_eq_of_lt hy', ← Nat.shiftLeft_eq, Nat.or_comm, ← Nat.shiftLeft_add_eq_or_of_lt hx, Nat.shiftLeft_eq, Nat.add_comm]
  rw [BitVec.toNat_setWidth, BitVec.toNat_setWidth, BitVec.toNat_ushiftRight, p _ _ 16 (by omega) (by omega) (by omega) (by omega),
    p _ _ 4 (by omega) (by omega) (by omega) (by omega), Nat.shiftRight_eq_div_pow]
  interval_cases i <;> (norm_num; omega)

theorem shl_four (u : ArithUnit) (x : BitVec 32) : IntOp.shli u x 4#32 = x <<< 4 := by
  simp [IntOp.shli, IntOp.cornerWord]

theorem shl_sixteen (u : ArithUnit) (x : BitVec 32) : IntOp.shli u x 16#32 = x <<< 16 := by
  simp [IntOp.shli, IntOp.cornerWord]

/-- A packed byte. -/
theorem Reals.byte {w : ℕ → EReal} {a : ℕ → ℝ} {mn σ : ℝ} (h : Reals w a mn σ) (j i : ℕ) (hi : i < 4) :
    byteOf (gWord w j) i = fByte w (8 * j + 2 * i) := by
  choose n hn hq _ hc using h.code
  unfold fByte byteOf gWord sWord
  rw [hc, hc, shl_four]
  simp only [hq]
  rw [sNib_nat _ _ _ _ (hn _) (hn _) (hn _) (hn _), sNib_nat _ _ _ _ (hn _) (hn _) (hn _) (hn _)]
  have e := word_byte (fun k => n (8 * j + k)) (fun k => hn _) i hi
  rw [← shl_sixteen .scalar] at e
  exact e

end Cert.KernelIdeal.Hand

end
-- ==== Proof.RefRead.lean ====
/-
  The reference's intermediate arrays at an index, over the extended reals.
-/
module

public import proofs.«01_k».proof.Proof.Gen.ReferenceIdeal.Step
public import proofs.«01_k».proof.Proof.IdealRun
public import proofs.«01_k».proof.Proof.IdealGroupMath
public import Idealize.ShloMosaic.Lib.Pointwise
public import Idealize.ShloMosaic.Lib.Pipeline.Value

@[expose] public section

set_option maxRecDepth 16384

noncomputable section

namespace Cert.ReferenceIdeal.Hand

open Idealize.ShloMosaic
open Cert.KernelIdeal.Hand
open Cert.KernelIdeal.Hand.Named (colA)
open Cert.ReferenceIdeal Cert.ReferenceIdeal.Gen Cert.ReferenceIdeal.Step

/-- A function of the rows of a group, continued by 0. -/
def row64 (f : Fin 64 → EReal) (r : ℕ) : EReal := if h : r < 64 then f ⟨r, h⟩ else 0

theorem inf_row (f : Fin 64 → EReal) : Finset.univ.fold min ⊤ f = gMin (row64 f) := by
  change Finset.univ.inf f = _
  unfold gMin
  apply le_antisymm
  · refine Finset.le_inf fun r hr => ?_
    have hr' := Finset.mem_range.mp hr
    unfold row64
    rw [dif_pos hr']
    exact Finset.inf_le (Finset.mem_univ _)
  · refine Finset.le_inf fun r _ => ?_
    have := Finset.inf_le (f := row64 f) (Finset.mem_range.mpr r.isLt)
    unfold row64 at this
    rwa [dif_pos r.isLt] at this

theorem sup_row (f : Fin 64 → EReal) : Finset.univ.fold max ⊥ f = gMax (row64 f) := by
  change Finset.univ.sup f = _
  unfold gMax
  apply le_antisymm
  · refine Finset.sup_le fun r _ => ?_
    have := Finset.le_sup (f := row64 f) (Finset.mem_range.mpr r.isLt)
    unfold row64 at this
    rwa [dif_pos r.isLt] at this
  · refine Finset.sup_le fun r hr => ?_
    have hr' := Finset.mem_range.mp hr
    unfold row64
    rw [dif_pos hr']
    exact Finset.le_sup (f := f) (Finset.mem_univ _)

theorem sum_row (f : Fin 64 → EReal) (g : EReal → EReal) : ∑ r : Fin 64, g (f r) = ∑ r ∈ Finset.range 64, g (row64 f r) := by
  rw [Finset.sum_range]
  refine Finset.sum_congr rfl fun r _ => ?_
  unfold row64
  rw [dif_pos r.isLt]

theorem min_read (v : FVec Ideal S3x8x64x18432 .f32) (h : S3x8x64x18432.ReducesTo [2] S3x8x18432) (hu : 0 < S_.numel) (e : Fin 3) (g : Fin 8) (l : Fin 18432) :
    (Host.reduce (FloatOps.minimumf (F := Ideal) (φ := .f32)) v (constant (F := Ideal) S_ .f32 0x7F800000#32) h hu (ix3 e g l) : EReal) = gMin (row64 fun r => v (ix4 e g r l)) := by
  refine (Host.reduce_eq_fold _ _ _ h hu _).trans ((h.fold_fiber_r4_a2 (ix3 e g l) (FloatOps.minimumf (F := Ideal) (φ := .f32)) _ v).trans ?_)
  rw [← inf_row]
  show Finset.univ.fold min (cst 0x7F800000#32) _ = _
  rw [cst_top]
  rfl

theorem max_read (v : FVec Ideal S3x8x64x18432 .f32) (h : S3x8x64x18432.ReducesTo [2] S3x8x18432) (hu : 0 < S_.numel) (e : Fin 3) (g : Fin 8) (l : Fin 18432) :
    (Host.reduce (FloatOps.maximumf (F := Ideal) (φ := .f32)) v (constant (F := Ideal) S_ .f32 0xFF800000#32) h hu (ix3 e g l) : EReal) = gMax (row64 fun r => v (ix4 e g r l)) := by
  refine (Host.reduce_eq_fold _ _ _ h hu _).trans ((h.fold_fiber_r4_a2 (ix3 e g l) (FloatOps.maximumf (F := Ideal) (φ := .f32)) _ v).trans ?_)
  rw [← sup_row]
  show Finset.univ.fold max (cst 0xFF800000#32) _ = _
  rw [cst_bot]
  rfl

theorem grouped_read (A : FVec Ideal S3x512x18432 .bf16) (h1 : FTy.bits .bf16 < FTy.bits .f32) (h2 : S3x512x18432.ShapeCasts S3x8x64x18432)
    (e : Fin 3) (g : Fin 8) (r : Fin 64) (l : Fin 18432) :
    (shapeCast S3x8x64x18432 (extf .f32 A h1) h2 : FVec Ideal S3x8x64x18432 .f32) (ix4 e g r l) = A (ix3 e ⟨64 * g.val + r.val, by omega⟩ l) := by
  pointwise
  congr 2
  apply Fin.ext
  show g.val * 64 + r.val = 64 * g.val + r.val
  omega

theorem grouped_row (A : FVec Ideal S3x512x18432 .bf16) (h1 : FTy.bits .bf16 < FTy.bits .f32) (h2 : S3x512x18432.ShapeCasts S3x8x64x18432)
    (e : Fin 3) (g : Fin 8) (l : Fin 18432) :
    (row64 fun r => (shapeCast S3x8x64x18432 (extf .f32 A h1) h2 : FVec Ideal S3x8x64x18432 .f32) (ix4 e g r l)) = colA A e g l := by
  funext r
  unfold row64 colA
  by_cases hr : r < 64
  · rw [dif_pos hr, dif_pos hr]
    exact grouped_read A h1 h2 e g ⟨r, hr⟩ l
  · rw [dif_neg hr, dif_neg hr]

/-! ## The values before the loop -/

section

variable (A : FVec Ideal S3x512x18432 .bf16) (e : Fin 3) (g : Fin 8) (l : Fin 18432)

theorem v1_read (r : Fin 64) : A_main_v1 (F := Ideal) A (ix4 e g r l) = colA A e g l r := by
  have h := congrFun (grouped_row A bitsLt_bf16_f32 shapeCasts_S3x512x18432_S3x8x64x18432 e g l) r.val
  unfold row64 at h
  rw [dif_pos r.isLt] at h
  exact h

theorem v3_read : A_main_v3 (F := Ideal) A (ix4 e g 0 l) = gMin (colA A e g l) := by
  unfold A_main_v3
  have h : ∀ x : FVec Ideal S3x8x18432 .f32, (broadcastInDim S3x8x1x18432 ![0, 1, 3] bcast_S3x8x18432_S3x8x1x18432_0_1_3 x : FVec Ideal _ .f32) (ix4 e g 0 l) = x (ix3 e g l) := by
    intro x; pointwise
  refine (h _).trans ((min_read _ _ _ e g l).trans ?_)
  exact congrArg gMin (grouped_row A _ _ e g l)

theorem v5_read : A_main_v5 (F := Ideal) A (ix4 e g 0 l) = gMax (colA A e g l) := by
  unfold A_main_v5
  have h : ∀ x : FVec Ideal S3x8x18432 .f32, (broadcastInDim S3x8x1x18432 ![0, 1, 3] bcast_S3x8x18432_S3x8x1x18432_0_1_3 x : FVec Ideal _ .f32) (ix4 e g 0 l) = x (ix3 e g l) := by
    intro x; pointwise
  refine (h _).trans ((max_read _ _ _ e g l).trans ?_)
  exact congrArg gMax (grouped_row A _ _ e g l)

theorem scale_select (mx mn : EReal) :
    Scalar.select (Ideal.cmp .oeq mx mn) (cst 0x3F800000#32) (Ideal.div (mx - mn) (cst 0x41700000#32)) = sScale mn mx := by
  unfold sScale
  by_cases h : mx = mn
  · rw [if_pos h]; simp [Scalar.select, Ideal.cmp, h]
  · rw [if_neg h]; simp [Scalar.select, Ideal.cmp, h]

theorem v10_read : A_main_v10 (F := Ideal) A (ix4 e g 0 l) = gS (colA A e g l) := by
  have h : ∀ x m : FVec Ideal S3x8x1x18432 .f32, select (cmpf .oeq x m) (K_main_call0_v0 (F := Ideal)) (Host.divf (subf x m) (K_main_v8 (F := Ideal))) (ix4 e g 0 l)
      = Scalar.select (Ideal.cmp .oeq (x (ix4 e g 0 l)) (m (ix4 e g 0 l))) (cst 0x3F800000#32)
        (Ideal.div (x (ix4 e g 0 l) - m (ix4 e g 0 l)) (cst 0x41700000#32)) := fun _ _ => rfl
  unfold A_main_v10 A_main_v9 A_main_v7 A_main_v6
  rw [h, v5_read, v3_read]
  exact scale_select _ _

theorem v13_read : A_main_v13 (F := Ideal) A (ix4 e g 0 l) = fStart (colA A e g l) := by
  have h : ∀ x m : FVec Ideal S3x8x1x18432 .f32, Host.divf (subf (K_main_v11 (F := Ideal)) m) x (ix4 e g 0 l)
      = Ideal.div (cst 0x00000000#32 - m (ix4 e g 0 l)) (x (ix4 e g 0 l)) := fun _ _ => rfl
  unfold A_main_v13 A_main_v12
  rw [h, v10_read, v3_read]
  rfl

end

/-! ## One trip -/

theorem across (x : FVec Ideal S3x8x1x18432 .f32) (e : Fin 3) (g : Fin 8) (r : Fin 64) (l : Fin 18432) :
    (broadcastInDim S3x8x64x18432 ![0, 1, 2, 3] bcast_S3x8x1x18432_S3x8x64x18432_0_1_2_3 x : FVec Ideal _ .f32) (ix4 e g r l) = x (ix4 e g 0 l) := by
  pointwise

theorem scalar (x : FVec Ideal S_ .f32) (e : Fin 3) (g : Fin 8) (r : Fin 64) (l : Fin 18432) :
    (broadcastInDim S3x8x64x18432 ![] bcast_S_S3x8x64x18432 x : FVec Ideal _ .f32) (ix4 e g r l) = x ix0 := by
  pointwise

section

variable (j : ℕ) (s : State Ideal) (e : Fin 3) (g : Fin 8) (r : Fin 64) (l : Fin 18432)

theorem b14_read : b14 j s (ix4 e g r l) = fQ (s.main_v14_1 (ix4 e g 0 l)) (s.main_v14_4 (ix4 e g 0 l)) (s.main_v14_0 (ix4 e g r l)) := by
  have h : b14 j s (ix4 e g r l) = min (cst 0x41700000#32) (max (cst 0x00000000#32) (Ideal.liftRound Ideal.roundHalfEven
      (Ideal.div (s.main_v14_0 (ix4 e g r l)) (b2 j s (ix4 e g r l)) + b4 j s (ix4 e g r l)))) := rfl
  rw [h]
  unfold b2 b4
  rw [across, across]
  rfl

theorem b19_read : b19 j s (ix4 e g r l) = fE (s.main_v14_1 (ix4 e g 0 l)) (s.main_v14_4 (ix4 e g 0 l)) (s.main_v14_0 (ix4 e g r l)) := by
  have h : b19 j s (ix4 e g r l) = s.main_v14_0 (ix4 e g r l) - (b14 j s (ix4 e g r l) - b15 j s (ix4 e g r l)) * b17 j s (ix4 e g r l) := rfl
  rw [h, b14_read]
  unfold b15 b17
  rw [across, across]
  rfl

theorem b39_read : b39 j s (ix4 e g r l) = fShrunk (s.main_v14_5 ix0) (fE (s.main_v14_1 (ix4 e g 0 l)) (s.main_v14_4 (ix4 e g 0 l)) (s.main_v14_0 (ix4 e g r l))) := by
  have h : b39 j s (ix4 e g r l) = Ideal.sign (b19 j s (ix4 e g r l)) * max (sAbs (b19 j s (ix4 e g r l))
      - b33 j s (ix4 e g r l) * Ideal.pow (fBase (b19 j s (ix4 e g r l))) (cst 0xBE99999A#32)) (cst 0x00000000#32) := rfl
  have h' : b33 j s (ix4 e g r l) = Ideal.div (cst 0x3F800000#32) (s.main_v14_5 ix0) := by
    unfold b33
    rw [scalar]
    rfl
  rw [h, h', b19_read]
  rfl

/-- A trip's term of a weight. -/
theorem b43_read : b43 j s (ix4 e g r l) = fTerm (s.main_v14_1 (ix4 e g 0 l)) (s.main_v14_4 (ix4 e g 0 l)) (s.main_v14_5 ix0) (s.main_v14_0 (ix4 e g r l)) := by
  have h : b43 j s (ix4 e g r l) = b14 j s (ix4 e g r l) - Ideal.div (s.main_v14_0 (ix4 e g r l) - b39 j s (ix4 e g r l)) (b41 j s (ix4 e g r l)) := rfl
  rw [h, b14_read, b39_read]
  unfold b41
  rw [across]
  rfl

end

theorem to_group (x : FVec Ideal S3x8x18432 .f32) (e : Fin 3) (g : Fin 8) (l : Fin 18432) :
    (broadcastInDim S3x8x1x18432 ![0, 1, 3] bcast_S3x8x18432_S3x8x1x18432_0_1_3 x : FVec Ideal _ .f32) (ix4 e g 0 l) = x (ix3 e g l) := by
  pointwise

theorem sum_read (x : FVec Ideal S3x8x64x18432 .f32) (e : Fin 3) (g : Fin 8) (l : Fin 18432) :
    Host.reduceAdd x (constant S_ .f32 0x00000000#32) reducesTo_S3x8x64x18432_S3x8x18432_d2 h_S_ (ix3 e g l)
      = cst 0x00000000#32 + ∑ r : Fin 64, x (ix4 e g r l) := by
  change Ideal.hostReduceAdd _ _ _ _ = _
  rw [Ideal.hostReduceAdd_r4_a2]
  rfl

theorem b49_read (j : ℕ) (s : State Ideal) (e : Fin 3) (g : Fin 8) (l : Fin 18432) :
    b49 j s (ix4 e g 0 l) = Ideal.div (cst 0x00000000#32 + ∑ r : Fin 64, b43 j s (ix4 e g r l)) (cst 0x42800000#32) := by
  have h : ∀ x : FVec Ideal S3x8x1x18432 .f32, Host.divf x (b48 j s) (ix4 e g 0 l) = Ideal.div (x (ix4 e g 0 l)) (cst 0x42800000#32) := fun _ => rfl
  unfold b49
  rw [h]
  unfold b46 b45 b44
  rw [to_group, sum_read]

/-! ## The iteration -/

/-- The loop's states. -/
def iter (A : FVec Ideal S3x512x18432 .bf16) : ℕ → State Ideal
  | 0 => init A
  | n + 1 => step n (iter A n)

theorem iter_kept (A : FVec Ideal S3x512x18432 .bf16) (n : ℕ) :
    (iter A n).main_v14_0 = A_main_v1 (F := Ideal) A ∧ (iter A n).main_v14_1 = A_main_v10 (F := Ideal) A := by
  induction n with
  | zero => simp only [iter, init, and_self]
  | succ n ih => exact ih

theorem sum_col (A : FVec Ideal S3x512x18432 .bf16) (e : Fin 3) (g : Fin 8) (l : Fin 18432) (f : EReal → EReal) :
    ∑ r : Fin 64, f (colA A e g l r) = ∑ r ∈ Finset.range 64, f (colA A e g l r) :=
  (Finset.sum_range (fun r => f (colA A e g l r))).symm

theorem iter_read (A : FVec Ideal S3x512x18432 .bf16) (e : Fin 3) (g : Fin 8) (l : Fin 18432) (n : ℕ) :
    ((iter A n).main_v14_4 (ix4 e g 0 l), (iter A n).main_v14_5 ix0)
      = fIter (gS (colA A e g l)) (colA A e g l) (fStart (colA A e g l), cst 0x41200000#32) n := by
  induction n with
  | zero =>
    have h : ∀ (σ : EReal) (w : ℕ → EReal) (a : EReal × EReal), fIter σ w a 0 = a := fun _ _ _ => rfl
    rw [h]
    refine Prod.ext ?_ ?_
    · simp only [iter, init]
      exact v13_read A e g l
    · simp only [iter, init]
      rfl
  | succ n ih =>
    unfold fIter at ih ⊢
    rw [Function.iterate_succ_apply', ← ih]
    obtain ⟨k0, k1⟩ := iter_kept A n
    refine Prod.ext ?_ rfl
    show b49 n (iter A n) (ix4 e g 0 l) = _
    rw [b49_read]
    simp only [b43_read, k0, k1, v10_read, v1_read]
    rw [sum_col]
    rfl

end Cert.ReferenceIdeal.Hand

end
-- ==== Proof.Precondition.lean ====
/-
  What the precondition says of every group of the argument: its range is 0 or in [2^-73, 2^80].
-/
module

public import proofs.«01_k».proof.Defs
public import proofs.«01_k».proof.Proof.Gen.Pre_group_ranges
public import proofs.«01_k».proof.Proof.RefRead

@[expose] public section

set_option maxRecDepth 16384

noncomputable section

namespace Cert.Pre_group_ranges.Hand

open Idealize.ShloMosaic
open Cert.KernelIdeal.Hand
open Cert.KernelIdeal.Hand.Named (colA)
open Cert.Pre_group_ranges Cert.Pre_group_ranges.Gen
open Cert.ReferenceIdeal.Hand (min_read max_read grouped_row)

theorem bits (p q r : Prop) [Decidable p] [Decidable q] [Decidable r]
    (h : IntOp.ori (BitVec.ofBool (decide p)) (IntOp.andi (BitVec.ofBool (decide q)) (BitVec.ofBool (decide r))) = 1#1) : p ∨ (q ∧ r) := by
  by_cases hp : p
  · exact Or.inl hp
  · refine Or.inr ?_
    by_cases hq : q
    · by_cases hr : r
      · exact ⟨hq, hr⟩
      · simp [hp, hq, hr, IntOp.ori, IntOp.andi] at h
    · simp [hp, hq, IntOp.ori, IntOp.andi] at h

theorem ranged (A : FVec Ideal S3x512x18432 .bf16) (h : fn (F := Ideal) A = fun _ => 1#1) (e : Fin 3) (g : Fin 8) (l : Fin 18432) :
    Ranged (colA A e g l) := by
  refine ⟨?_, fun r hr => by unfold colA; rw [dif_neg (by omega)]⟩
  have h0 := congrFun h (ix3 e g l)
  have hr : ∀ x n : FVec Ideal S3x8x18432 .f32,
      ori (cmpf .oeq (subf x n) (broadcastInDim S3x8x18432 ![] bcast_S_S3x8x18432 (constant S_ .f32 0x00000000#32)))
        (andi (cmpf .oge (subf x n) (broadcastInDim S3x8x18432 ![] bcast_S_S3x8x18432 (constant S_ .f32 0x1B000000#32)))
          (cmpf .ole (subf x n) (broadcastInDim S3x8x18432 ![] bcast_S_S3x8x18432 (constant S_ .f32 0x67800000#32)))) (ix3 e g l)
      = IntOp.ori (Ideal.cmp .oeq (x (ix3 e g l) - n (ix3 e g l)) (cst 0x00000000#32))
        (IntOp.andi (Ideal.cmp .oge (x (ix3 e g l) - n (ix3 e g l)) (cst 0x1B000000#32)) (Ideal.cmp .ole (x (ix3 e g l) - n (ix3 e g l)) (cst 0x67800000#32))) :=
    fun _ _ => rfl
  let v : FVec Ideal S3x8x64x18432 .f32 := shapeCast S3x8x64x18432 (extf .f32 A bitsLt_bf16_f32) shapeCasts_S3x512x18432_S3x8x64x18432
  have hv : (Cert.ReferenceIdeal.Hand.row64 fun r => v (ix4 e g r l)) = colA A e g l := grouped_row A _ _ e g l
  have hx := (max_read v reducesTo_S3x8x64x18432_S3x8x18432_d2 h_S_ e g l).trans (congrArg gMax hv)
  have hn := (min_read v reducesTo_S3x8x64x18432_S3x8x18432_d2 h_S_ e g l).trans (congrArg gMin hv)
  have h1 := (hr (Host.reduce (FloatOps.maximumf (F := Ideal) (φ := .f32)) v (constant (F := Ideal) Cert.ReferenceIdeal.S_ .f32 0xFF800000#32) reducesTo_S3x8x64x18432_S3x8x18432_d2 h_S_)
    (Host.reduce (FloatOps.minimumf (F := Ideal) (φ := .f32)) v (constant (F := Ideal) Cert.ReferenceIdeal.S_ .f32 0x7F800000#32) reducesTo_S3x8x64x18432_S3x8x18432_d2 h_S_)).symm.trans h0
  rw [hx, hn, cst_0, cst_low, cst_high] at h1
  exact bits _ _ _ h1

end Cert.Pre_group_ranges.Hand

end
-- ==== Proof.RefResults.lean ====
/-
  The reference's results at an index, over the extended reals.
-/
module

public import proofs.«01_k».proof.Proof.RefRead

@[expose] public section

set_option maxRecDepth 16384

noncomputable section

namespace Cert.ReferenceIdeal.Hand

open Idealize.ShloMosaic
open Cert.KernelIdeal.Hand
open Cert.KernelIdeal.Hand.Named (colA)
open Cert.ReferenceIdeal Cert.ReferenceIdeal.Gen Cert.ReferenceIdeal.Step

/-- The codes, as the operations after the loop compute them from the last zero points. -/
def codes (A : FVec Ideal S3x512x18432 .bf16) (z : FVec Ideal S3x8x1x18432 .f32) : IVec S3x8x64x18432 32 :=
  fptosi 32 (minimumf (broadcastInDim S3x8x64x18432 ![] bcast_S_S3x8x64x18432 (id (constant S_ .f32 0x41700000#32)))
    (maximumf (broadcastInDim S3x8x64x18432 ![] bcast_S_S3x8x64x18432 (id (constant S_ .f32 0x00000000#32)))
      (Host.roundeven (addf (Host.divf (A_main_v1 (F := Ideal) A) (broadcastInDim S3x8x64x18432 ![0, 1, 2, 3] bcast_S3x8x1x18432_S3x8x64x18432_0_1_2_3 (A_main_v10 (F := Ideal) A)))
        (broadcastInDim S3x8x64x18432 ![0, 1, 2, 3] bcast_S3x8x1x18432_S3x8x64x18432_0_1_2_3 z)))))

/-- The errors' powers. -/
def powers (A : FVec Ideal S3x512x18432 .bf16) (z : FVec Ideal S3x8x1x18432 .f32) : FVec Ideal S3x8x64x18432 .f32 :=
  Host.powf (Host.absf (subf (A_main_v1 (F := Ideal) A) (mulf (subf (sitofp .f32 (codes A z))
      (broadcastInDim S3x8x64x18432 ![0, 1, 2, 3] bcast_S3x8x1x18432_S3x8x64x18432_0_1_2_3 z))
      (broadcastInDim S3x8x64x18432 ![0, 1, 2, 3] bcast_S3x8x1x18432_S3x8x64x18432_0_1_2_3 (A_main_v10 (F := Ideal) A)))))
    (broadcastInDim S3x8x64x18432 ![] bcast_S_S3x8x64x18432 (constant S_ .f32 0x3F333333#32))

section

variable (A : FVec Ideal S3x512x18432 .bf16) (e : Fin 3) (g : Fin 8) (l : Fin 18432)

theorem z_read : (iter A 20).main_v14_4 (ix4 e g 0 l) = fZ (colA A e g l) := congrArg Prod.fst (iter_read A e g l 20)

theorem codes_read (r : Fin 64) : codes A (iter A 20).main_v14_4 (ix4 e g r l) = fCode (colA A e g l) r := by
  have h : ∀ w b c : FVec Ideal S3x8x64x18432 .f32, fptosi 32 (minimumf (broadcastInDim S3x8x64x18432 ![] bcast_S_S3x8x64x18432 (id (constant S_ .f32 0x41700000#32)))
      (maximumf (broadcastInDim S3x8x64x18432 ![] bcast_S_S3x8x64x18432 (id (constant S_ .f32 0x00000000#32))) (Host.roundeven (addf (Host.divf w b) c)))) (ix4 e g r l)
      = Ideal.fptosi 32 (min (cst 0x41700000#32) (max (cst 0x00000000#32) (Ideal.liftRound Ideal.roundHalfEven (Ideal.div (w (ix4 e g r l)) (b (ix4 e g r l)) + c (ix4 e g r l))))) :=
    fun _ _ _ => rfl
  unfold codes
  rw [h, across, across, v1_read, v10_read, z_read]
  rfl

theorem powers_read (r : Fin 64) : powers A (iter A 20).main_v14_4 (ix4 e g r l) = fErrTerm (colA A e g l) r := by
  have h : ∀ (w b c : FVec Ideal S3x8x64x18432 .f32) (q : IVec S3x8x64x18432 32), Host.powf (Host.absf (subf w (mulf (subf (sitofp .f32 q) c) b)))
      (broadcastInDim S3x8x64x18432 ![] bcast_S_S3x8x64x18432 (constant S_ .f32 0x3F333333#32)) (ix4 e g r l)
      = Ideal.pow (sAbs (w (ix4 e g r l) - ((((q (ix4 e g r l)).toInt : ℝ) : EReal) - c (ix4 e g r l)) * b (ix4 e g r l))) (cst 0x3F333333#32) := fun _ _ _ _ => rfl
  unfold powers
  rw [h, across, across, v1_read, v10_read, z_read, codes_read]
  rfl

theorem drop_unit (x : FVec Ideal S3x8x1x18432 .f32) (h : S3x8x1x18432.ShapeCasts S3x8x18432) :
    (shapeCast S3x8x18432 x h : FVec Ideal _ .f32) (ix3 e g l) = x (ix4 e g 0 l) := by
  pointwise

theorem zeros_read : R_main_v51 (iter A 20) (ix3 e g l) = fZ (colA A e g l) := by
  unfold R_main_v51
  exact (drop_unit e g l _ _).trans (z_read A e g l)

theorem scales_read : R_main_v50 (iter A 20) A (ix3 e g l) = gS (colA A e g l) := by
  have h : ∀ s : State Ideal, R_main_v50 s A = shapeCast _ (A_main_v10 (F := Ideal) A) shapeCasts_S3x8x1x18432_S3x8x18432 := fun _ => rfl
  rw [h]
  exact (drop_unit e g l _ _).trans (v10_read A e g l)

theorem shifts_read : R_main_v49 (iter A 20) A (ix3 e g l) = fShift (colA A e g l) := by
  have h : ∀ s : State Ideal, R_main_v49 s A = shapeCast S3x8x18432 (subf s.main_v14_4 (A_main_v13 (F := Ideal) A) : FVec Ideal S3x8x1x18432 .f32) shapeCasts_S3x8x1x18432_S3x8x18432 := fun _ => rfl
  have h' : ∀ x y : FVec Ideal S3x8x1x18432 .f32, subf x y (ix4 e g 0 l) = x (ix4 e g 0 l) - y (ix4 e g 0 l) := fun _ _ => rfl
  rw [h]
  refine (drop_unit e g l _ _).trans ?_
  rw [h', z_read, v13_read]
  rfl

theorem errors_read : R_main_v47 (iter A 20) A (ix3 e g l) = fErr (colA A e g l) := by
  have h : ∀ s : State Ideal, R_main_v47 s A = Host.divf (Host.reduceAdd (powers A s.main_v14_4) (constant S_ .f32 0x00000000#32) reducesTo_S3x8x64x18432_S3x8x18432_d2 h_S_)
      (broadcastInDim S3x8x18432 ![] bcast_S_S3x8x18432 (constant S_ .f32 0x42800000#32)) := fun _ => rfl
  have h' : ∀ x : FVec Ideal S3x8x18432 .f32, Host.divf x (broadcastInDim S3x8x18432 ![] bcast_S_S3x8x18432 (constant S_ .f32 0x42800000#32)) (ix3 e g l)
      = Ideal.div (x (ix3 e g l)) (cst 0x42800000#32) := fun _ => rfl
  rw [h, h', sum_read]
  simp only [powers_read]
  unfold fErr
  rw [← Finset.sum_range (fun r => fErrTerm (colA A e g l) r)]

end

/-- One code of a pair, of row `k` of the packed array. -/
theorem pair_read (c : IVec S3x8x64x18432 32) (e : Fin 3) (k : Fin 256) (l : Fin 18432)
    (h1 : S3x8x64x18432.ShapeCasts S3x256x2x18432) (h2 : S3x256x1x18432.ShapeCasts S3x256x18432)
    (h3 : S3x256x2x18432.Slices ![0, 0, 0, 0] S3x256x1x18432) (h4 : S3x256x2x18432.Slices ![0, 0, 1, 0] S3x256x1x18432) :
    (shapeCast S3x256x18432 (extractStridedSlice S3x256x1x18432 ![0, 0, 0, 0] (shapeCast S3x256x2x18432 c h1) h3) h2 : IVec _ 32) (ix3 e k l)
      = c (ix4 e ⟨k.val / 32, by omega⟩ ⟨2 * (k.val % 32), by omega⟩ l) ∧
    (shapeCast S3x256x18432 (extractStridedSlice S3x256x1x18432 ![0, 0, 1, 0] (shapeCast S3x256x2x18432 c h1) h4) h2 : IVec _ 32) (ix3 e k l)
      = c (ix4 e ⟨k.val / 32, by omega⟩ ⟨2 * (k.val % 32) + 1, by omega⟩ l) := by
  constructor
  · pointwise
    congr 2 <;> (apply Fin.ext; simp; omega)
  · pointwise
    congr 2 <;> (apply Fin.ext; simp; omega)

theorem packed_read (A : FVec Ideal S3x512x18432 .bf16) (e : Fin 3) (k : Fin 256) (l : Fin 18432) :
    R_main_v60 (iter A 20) A (ix3 e k l) = fByte (colA A e ⟨k.val / 32, by omega⟩ l) (2 * (k.val % 32)) := by
  have h : ∀ s : State Ideal, R_main_v60 s A = trunci 8 (ori
      (shapeCast _ (extractStridedSlice S3x256x1x18432 ![0, 0, 0, 0] (shapeCast _ (codes A s.main_v14_4) shapeCasts_S3x8x64x18432_S3x256x2x18432) slices_S3x256x2x18432_S3x256x1x18432_0_0_0_0) shapeCasts_S3x256x1x18432_S3x256x18432)
      (Host.shli (shapeCast _ (extractStridedSlice S3x256x1x18432 ![0, 0, 1, 0] (shapeCast _ (codes A s.main_v14_4) shapeCasts_S3x8x64x18432_S3x256x2x18432) slices_S3x256x2x18432_S3x256x1x18432_0_0_1_0) shapeCasts_S3x256x1x18432_S3x256x18432)
        (broadcastInDim S3x256x18432 ![] bcast_S_S3x256x18432 (constantI S_ 32 4#32)))) _ := fun _ => rfl
  have h' : ∀ (x y : IVec S3x256x18432 32) (hw : 8 < 32), trunci 8 (ori x (Host.shli y (broadcastInDim S3x256x18432 ![] bcast_S_S3x256x18432 (constantI S_ 32 4#32)))) hw (ix3 e k l)
      = (IntOp.ori (x (ix3 e k l)) (IntOp.shli .host (y (ix3 e k l)) 4#32)).setWidth 8 := fun _ _ _ => rfl
  obtain ⟨p0, p1⟩ := pair_read (codes A (iter A 20).main_v14_4) e k l shapeCasts_S3x8x64x18432_S3x256x2x18432 shapeCasts_S3x256x1x18432_S3x256x18432
    slices_S3x256x2x18432_S3x256x1x18432_0_0_0_0 slices_S3x256x2x18432_S3x256x1x18432_0_0_1_0
  rw [h, h', p0, p1, codes_read, codes_read]
  rfl

end Cert.ReferenceIdeal.Hand

end
-- ==== Proof.Equal.lean ====
/-
  The kernel's result arrays are the reference's, where every group's range is 0 or in [2^-73, 2^80].
-/
module

public import proofs.«01_k».proof.Proof.RefResults

@[expose] public section

noncomputable section

namespace Cert.Equal

open Idealize.ShloMosaic
open Cert.KernelIdeal.Hand Cert.KernelIdeal.Hand.Named
open Cert.ReferenceIdeal Cert.ReferenceIdeal.Hand Cert.ReferenceIdeal.Step

variable (A : FVec Ideal S3x512x18432 .bf16)

theorem scales : arrStat gS A = R_main_v50 (iter A 20) A := by
  funext y
  obtain ⟨e, g, l, rfl⟩ : ∃ (e : Fin 3) (g : Fin 8) (l : Fin 18432), y = ix3 e g l := ⟨y 0, y 1, y 2, eq_ix3 y⟩
  rw [scales_read]
  rfl

variable (h : ∀ e g l, Ranged (colA A e g l))
include h

theorem zeros : arrStat gZ A = R_main_v51 (iter A 20) := by
  funext y
  obtain ⟨e, g, l, rfl⟩ : ∃ (e : Fin 3) (g : Fin 8) (l : Fin 18432), y = ix3 e g l := ⟨y 0, y 1, y 2, eq_ix3 y⟩
  obtain ⟨_, _, _, hr⟩ := (h e g l).reals
  obtain ⟨z, h1, h2⟩ := hr.z
  rw [zeros_read, h2, ← h1]
  rfl

theorem errors : arrStat gErr A = R_main_v47 (iter A 20) A := by
  funext y
  obtain ⟨e, g, l, rfl⟩ : ∃ (e : Fin 3) (g : Fin 8) (l : Fin 18432), y = ix3 e g l := ⟨y 0, y 1, y 2, eq_ix3 y⟩
  obtain ⟨_, _, _, hr⟩ := (h e g l).reals
  rw [errors_read, ← hr.err]
  rfl

theorem shifts : arrStat gShift A = R_main_v49 (iter A 20) A := by
  funext y
  obtain ⟨e, g, l, rfl⟩ : ∃ (e : Fin 3) (g : Fin 8) (l : Fin 18432), y = ix3 e g l := ⟨y 0, y 1, y 2, eq_ix3 y⟩
  obtain ⟨_, _, _, hr⟩ := (h e g l).reals
  rw [shifts_read, ← hr.shift]
  rfl

theorem packed : arrCodes A = R_main_v60 (iter A 20) A := by
  funext y
  obtain ⟨e, k, l, rfl⟩ : ∃ (e : Fin 3) (k : Fin 256) (l : Fin 18432), y = ix3 e k l := ⟨y 0, y 1, y 2, eq_ix3 y⟩
  obtain ⟨_, _, _, hr⟩ := (h e ⟨k.val / 32, by omega⟩ l).reals
  have hb := hr.byte (k.val % 32 / 4) (k.val % 4) (by omega)
  rw [show 8 * (k.val % 32 / 4) + 2 * (k.val % 4) = 2 * (k.val % 32) by omega] at hb
  rw [packed_read, ← hb]
  rfl

end Cert.Equal

end
-- ==== Proof.lean ====
/-
  The proof of `Cert.Claim`: the kernel as printed, the idealized kernel and the reference run, leave their argument
  as it was and every semaphore counter at zero; the idealized kernel is the sanctioned idealization of the printed one;
  where every group's range is 0 or in [2^-73, 2^80], it returns the reference's five arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Pre_group_ranges
public import proofs.«01_k».proof.Proof.KernelFrame
public import proofs.«01_k».proof.Proof.IdealFrame
public import proofs.«01_k».proof.Proof.IdealRun
public import proofs.«01_k».proof.Proof.Precondition
public import proofs.«01_k».proof.Proof.Equal
public import Idealize.ShloMosaic.Lib.Bf16PairInverse

@[expose] public section

noncomputable section

namespace Cert.Proof

open Idealize.ShloMosaic Idealize.SL.Sem

theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _,
    IdealRules.named_const.statement _ _ _ _ _ rfl, IdealRules.named_const.statement _ _ _ _ _ rfl,
    IdealRules.named_const.statement _ _ _ _ _ rfl, IdealRules.named_const.statement _ _ _ _ _ rfl⟩

/-- The reference leaves its argument as it was; it declares no semaphore. -/
theorem frame_reference : Cert.quiescent_ReferenceIdeal := by
  intro m ρ _
  exact (θ_run Cert.ReferenceIdeal.defs _ _).mono (fun r h => ⟨fun c => (h c).2.2.2.2.2, sem_eq_zero_of_no_sems (by decide) r.2⟩)
    (Cert.ReferenceIdeal.Value.run (F := Ideal) m ρ)

/-- The idealized kernel and the reference return the same five arrays. -/
theorem algebraic : Cert.algebraic_KernelIdeal_ReferenceIdeal_pre_group_ranges := by
  intro m g m' g' hpre hm
  have hrun := Cert.ReferenceIdeal.StepRun.run_iter (F := Ideal) m' g'
    (fun c => Cert.ReferenceIdeal.Hand.iter (m' ((c.tc : Thread Cert.ReferenceIdeal.nD Cert.ReferenceIdeal.τ).loc Cert.ReferenceIdeal.main_arg0)))
    (fun _ => rfl) (fun _ _ => rfl)
  have hr := fun c => Cert.Pre_group_ranges.Hand.ranged _ (hpre c)
  refine ⟨_, _, _, _, _, (θ_run Cert.KernelIdeal.defs _ _).mono (fun r h => h.1) (Cert.KernelIdeal.Hand.Named.run_values m g),
    (θ_run Cert.ReferenceIdeal.defs _ _).mono (fun r h c => ?_) hrun⟩
  obtain ⟨h0, h1, h2, h3, h4, h5⟩ := h c
  rw [hm c] at h0 h1 h2 h3 h4
  exact ⟨h0.trans (Cert.Equal.packed _ (hr c)).symm, h1.trans (Cert.Equal.scales _).symm, h2.trans (Cert.Equal.zeros _ (hr c)).symm,
    h3.trans (Cert.Equal.errors _ (hr c)).symm, h4.trans (Cert.Equal.shifts _ (hr c)).symm, h5⟩

theorem claim : Cert.Claim :=
  ⟨Cert.Kernel.Gen.facts, Cert.KernelIdeal.Gen.facts, Cert.ReferenceIdeal.Gen.facts, Cert.Pre_group_ranges.Gen.facts,
    fun m ρ _ => Cert.Kernel.Hand.frame_run m ρ,
    fun m ρ _ => Cert.KernelIdeal.Hand.frame_run m ρ,
    fun m ρ _ => Cert.KernelIdeal.Hand.frame_run m ρ,
    frame_reference,
    fun m ρ _ => frame_reference m ρ trivial,
    preserves,
    algebraic⟩

end Cert.Proof

end
